-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x4096 : Shape := ⟨3, ![2, 3072, 4096]⟩
abbrev S4096x14336 : Shape := ⟨2, ![4096, 14336]⟩
abbrev S14336 : Shape := ⟨1, ![14336]⟩
abbrev S6144x4096 : Shape := ⟨2, ![6144, 4096]⟩
abbrev S1x14336 : Shape := ⟨2, ![1, 14336]⟩
abbrev S6144x1 : Shape := ⟨2, ![6144, 1]⟩
abbrev S6144x7168 : Shape := ⟨2, ![6144, 7168]⟩
abbrev S512x4096 : Shape := ⟨2, ![512, 4096]⟩
abbrev S4096x512 : Shape := ⟨2, ![4096, 512]⟩
abbrev S1x512 : Shape := ⟨2, ![1, 512]⟩
abbrev S512x1 : Shape := ⟨2, ![512, 1]⟩
abbrev S512x7168 : Shape := ⟨2, ![512, 7168]⟩
abbrev S512x128 : Shape := ⟨2, ![512, 128]⟩
abbrev S512 : Shape := ⟨1, ![512]⟩
abbrev S512x256 : Shape := ⟨2, ![512, 256]⟩
abbrev S4096x256 : Shape := ⟨2, ![4096, 256]⟩
abbrev S1x256 : Shape := ⟨2, ![1, 256]⟩
abbrev S2x3072x1 : Shape := ⟨3, ![2, 3072, 1]⟩
abbrev S2x3072x7168 : Shape := ⟨3, ![2, 3072, 7168]⟩

abbrev nBuf : Space → Nat
  | .hbm => 13
  | .vmem => 21
  | .smem => 0
  | _ => 0

abbrev bufTy : (tb : Table) → Fin (tcTables nBuf tb) → BufTy
  | .hbm, ⟨0, _⟩ => ⟨S2x3072x4096, .bf16⟩
  | .hbm, ⟨1, _⟩ => ⟨S4096x14336, .fp8e4m3⟩
  | .hbm, ⟨2, _⟩ => ⟨S14336, .f32⟩
  | .hbm, ⟨3, _⟩ => ⟨S6144x4096, .bf16⟩
  | .hbm, ⟨4, _⟩ => ⟨S1x14336, .f32⟩
  | .hbm, ⟨5, _⟩ => ⟨S6144x1, .f32⟩
  | .hbm, ⟨6, _⟩ => ⟨S6144x7168, .fp8e4m3⟩
  | .hbm, ⟨7, _⟩ => ⟨S6144x4096, .fp8e4m3⟩
  | .hbm, ⟨8, _⟩ => ⟨S6144x1, .f32⟩
  | .hbm, ⟨9, _⟩ => ⟨S2x3072x1, .f32⟩
  | .hbm, ⟨10, _⟩ => ⟨S2x3072x7168, .fp8e4m3⟩
  | .hbm, ⟨11, _⟩ => ⟨S2x3072x4096, .fp8e4m3⟩
  | .hbm, ⟨12, _⟩ => ⟨S2x3072x1, .f32⟩
  | .local _ .vmem, ⟨0, _⟩ => ⟨S512x4096, .bf16⟩
  | .local _ .vmem, ⟨1, _⟩ => ⟨S512x4096, .bf16⟩
  | .local _ .vmem, ⟨2, _⟩ => ⟨S4096x512, .fp8e4m3⟩
  | .local _ .vmem, ⟨3, _⟩ => ⟨S4096x512, .fp8e4m3⟩
  | .local _ .vmem, ⟨4, _⟩ => ⟨S4096x512, .fp8e4m3⟩
  | .local _ .vmem, ⟨5, _⟩ => ⟨S4096x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x7168, .fp8e4m3⟩
  | .local _ .vmem, ⟨13, _⟩ => ⟨S512x7168, .fp8e4m3⟩
  | .local _ .vmem, ⟨14, _⟩ => ⟨S512x4096, .fp8e4m3⟩
  | .local _ .vmem, ⟨15, _⟩ => ⟨S512x4096, .fp8e4m3⟩
  | .local _ .vmem, ⟨16, _⟩ => ⟨S512x1, .f32⟩
  | .local _ .vmem, ⟨17, _⟩ => ⟨S512x1, .f32⟩
  | .local _ .vmem, ⟨18, _⟩ => ⟨S512x7168, .f32⟩
  | .local _ .vmem, ⟨19, _⟩ => ⟨S512x128, .f32⟩
  | .local _ .vmem, ⟨20, _⟩ => ⟨S512x128, .f32⟩
  | _, _ => ⟨S2x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![12, 14], ![false, false]⟩

def k0_mult1 (i : grid0.Coords) : BitVec 32 :=
  let arg1 : BitVec 32 := BitVec.ofNat 32 (i 1).val
  let c512_i32 : BitVec 32 := 512#32
  let v26 : BitVec 32 := Scalar.muli arg1 c512_i32
  v26
def k0_off1 (i : grid0.Coords) (c0_i32_15 : BitVec 32) : Fin 2 → Nat :=
  let c0_16 : Index := 0#32
  let arg1 : BitVec 32 := BitVec.ofNat 32 (i 1).val
  let c512_i32 : BitVec 32 := 512#32
  let v26 : BitVec 32 := Scalar.muli arg1 c512_i32
  let v27 : BitVec 32 := v26
  let v28 : BitVec 32 := Scalar.addi v27 c0_i32_15
  let v29 : Index := Scalar.indexCast v28
  ![0, v29.toNat]
def k0_mult2 (i : grid0.Coords) : BitVec 32 :=
  let arg1 : BitVec 32 := BitVec.ofNat 32 (i 1).val
  let c512_i32_34 : BitVec 32 := 512#32
  let v63 : BitVec 32 := Scalar.muli arg1 c512_i32_34
  v63
def k0_cond2 (i : grid0.Coords) : BitVec 1 :=
  let arg1 : BitVec 32 := BitVec.ofNat 32 (i 1).val
  let c13_i32 : BitVec 32 := 13#32
  let v79 : BitVec 1 := Scalar.cmpi .eq arg1 c13_i32
  let v80 : BitVec 32 := Scalar.extui v79
  let c0_i32_40 : BitVec 32 := 0#32
  let v81 : BitVec 1 := Scalar.cmpi .ne v80 c0_i32_40
  v81

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg1 c14_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg1 c14_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x3072x4096 : Shape := ⟨3, ![2, 3072, 4096]⟩
abbrev S4096x14336 : Shape := ⟨2, ![4096, 14336]⟩
abbrev S14336 : Shape := ⟨1, ![14336]⟩
abbrev S6144x4096 : Shape := ⟨2, ![6144, 4096]⟩
abbrev S1x14336 : Shape := ⟨2, ![1, 14336]⟩
abbrev S6144x1 : Shape := ⟨2, ![6144, 1]⟩
abbrev S6144x7168 : Shape := ⟨2, ![6144, 7168]⟩
abbrev S6144 : Shape := ⟨1, ![6144]⟩
abbrev S6144x14336 : Shape := ⟨2, ![6144, 14336]⟩
abbrev S2x3072x1 : Shape := ⟨3, ![2, 3072, 1]⟩
abbrev S2x3072x7168 : Shape := ⟨3, ![2, 3072, 7168]⟩

abbrev nBuf : Space → Nat
  | .hbm => 13
  | .vmem => 7
  | .smem => 0
  | _ => 0

abbrev bufTy : (tb : Table) → Fin (tcTables nBuf tb) → BufTy
  | .hbm, ⟨0, _⟩ => ⟨S2x3072x4096, .bf16⟩
  | .hbm, ⟨1, _⟩ => ⟨S4096x14336, .fp8e4m3⟩
  | .hbm, ⟨2, _⟩ => ⟨S14336, .f32⟩
  | .hbm, ⟨3, _⟩ => ⟨S6144x4096, .bf16⟩
  | .hbm, ⟨4, _⟩ => ⟨S1x14336, .f32⟩
  | .hbm, ⟨5, _⟩ => ⟨S6144x1, .f32⟩
  | .hbm, ⟨6, _⟩ => ⟨S6144x7168, .fp8e4m3⟩
  | .hbm, ⟨7, _⟩ => ⟨S6144x4096, .fp8e4m3⟩
  | .hbm, ⟨8, _⟩ => ⟨S6144x1, .f32⟩
  | .hbm, ⟨9, _⟩ => ⟨S2x3072x1, .f32⟩
  | .hbm, ⟨10, _⟩ => ⟨S2x3072x7168, .fp8e4m3⟩
  | .hbm, ⟨11, _⟩ => ⟨S2x3072x4096, .fp8e4m3⟩
  | .hbm, ⟨12, _⟩ => ⟨S2x3072x1, .f32⟩
  | .local _ .vmem, ⟨0, _⟩ => ⟨S6144x4096, .bf16⟩
  | .local _ .vmem, ⟨1, _⟩ => ⟨S4096x14336, .fp8e4m3⟩
  | .local _ .vmem, ⟨2, _⟩ => ⟨S1x14336, .f32⟩
  | .local _ .vmem, ⟨3, _⟩ => ⟨S6144x1, .f32⟩
  | .local _ .vmem, ⟨4, _⟩ => ⟨S6144x7168, .fp8e4m3⟩
  | .local _ .vmem, ⟨5, _⟩ => ⟨S6144x4096, .fp8e4m3⟩
  | .local _ .vmem, ⟨6, _⟩ => ⟨S6144x1, .f32⟩
  | _, _ => ⟨S2x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KI.Base.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.ValueKit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

abbrev cond0_1 (i : grid0.Coords) : Prop := k0_cond2 i = 1#1
/-- It holds at the points ≡ 13 (mod 14) — by arithmetic of the point. -/
theorem hcond0_1 : ∀ t : Fin cfg0.N, cond0_1 (grid0.coords t) ↔ t.val % 14 = 13 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val % 14 = 13)

theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)

/-- The three scratch buffers: the row block of `h`, the running lane-wise maximum, the scales over the lanes. -/
abbrev scM0_0 : Memref sig .tc .vmem S512x7168 .f32 := Memref.whole cc0_scratch0
abbrev scM0_1 : Memref sig .tc .vmem S512x128 .f32 := Memref.whole cc0_scratch1
abbrev scM0_2 : Memref sig .tc .vmem S512x128 .f32 := Memref.whole cc0_scratch2

/-- What the launch hands in and takes back: the scratch buffers and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The values one grid point computes, over the blocks it reads. The power-of-two scale of each row of an activation block. -/
def xsOf (x0 : Vec F S512x4096 .bf16) : Vec F S512x1 .f32 := k0_pay8 (k0_pay4 x0) (k0_pay5 x0) (k0_pay6 x0) 4#32
/-- The fp8 codes of an activation block. -/
def xcOf (x0 : Vec F S512x4096 .bf16) : Vec F S512x4096 .fp8e4m3 := k0_pay18 (k0_pay3 x0) (k0_pay7 (k0_pay4 x0) (k0_pay5 x0) (k0_pay6 x0) 4#32) k0_pay9
/-- The row scales broadcast over the lanes. -/
def xlOf (x0 : Vec F S512x4096 .bf16) : Vec F S512x128 .f32 := k0_pay19 (xsOf x0)

section
variable (xl : Vec F S512x128 .f32) (xc : Vec F S512x4096 .fp8e4m3) (x1 x2 : Vec F S4096x512 .fp8e4m3) (x3 x4 : Vec F S1x512 .f32)
/-- The columns of the two halves of a block of weights, and of a block of weight scales. -/
abbrev wHalf0 (x : Vec F S4096x512 .fp8e4m3) : Vec F S4096x256 .fp8e4m3 := View.ld x (Rect.unit (s := S4096x512) ![0, 0] S4096x256.size inb_S4096x512_S4096x256_0_0)
abbrev wHalf1 (x : Vec F S4096x512 .fp8e4m3) : Vec F S4096x256 .fp8e4m3 := View.ld x (Rect.unit (s := S4096x512) ![0, 256] S4096x256.size inb_S4096x512_S4096x256_0_256)
abbrev sHalf0 (x : Vec F S1x512 .f32) : Vec F S1x256 .f32 := View.ld x (Rect.unit (s := S1x512) ![0, 0] S1x256.size inb_S1x512_S1x256_0_0)
abbrev sHalf1 (x : Vec F S1x512 .f32) : Vec F S1x256 .f32 := View.ld x (Rect.unit (s := S1x512) ![0, 256] S1x256.size inb_S1x512_S1x256_0_256)
/-- The two tiles of `h` a point computes, -/
def tile0 : FVec F S512x256 .f32 := k0_pay23 xl xc (wHalf0 x1) xc (wHalf0 x2) (sHalf0 x3) (sHalf0 x4)
def tile1 : FVec F S512x256 .f32 := k0_pay27 (k0_pay21 xl) xc (wHalf1 x1) xc (wHalf1 x2) (sHalf1 x3) (sHalf1 x4)
/-- their absolute values, -/
def abs0 : FVec F S512x256 .f32 := k0_pay24 xl xc (wHalf0 x1) xc (wHalf0 x2) (sHalf0 x3) (sHalf0 x4)
def abs1 : FVec F S512x256 .f32 := k0_pay28 (k0_pay21 xl) xc (wHalf1 x1) xc (wHalf1 x2) (sHalf1 x3) (sHalf1 x4)
/-- and the running lane-wise maximum of those after the point. -/
def amOf (am : Vec F S512x128 .f32) : FVec F S512x128 .f32 :=
  k0_pay1 (abs1 xl xc x1 x2 x3 x4) (k0_pay25 (abs0 xl xc x1 x2 x3 x4) am)
/-- The row block of `h` with the two tiles of point `i` put in. -/
def hOf (i : grid0.Coords) (d : Vec F S512x7168 .f32) : Vec F S512x7168 .f32 :=
  VecWindow.put (VecWindow.put d (k0_off1 i 0#32) S512x256.size (tile0 xl xc x1 x2 x3 x4)) (k0_off1 i 256#32) S512x256.size (tile1 xl xc x1 x2 x3 x4)
end
/-- The scales of a row block of `h`, from its lane-wise maximum, -/
def hsOf (am : Vec F S512x128 .f32) : FVec F S512x1 .f32 := k0_pay15 (k0_pay10 am) (k0_pay11 am) (k0_pay12 am) (k0_pay13 am) 23#32
/-- and its fp8 codes. -/
def hcOf (am : Vec F S512x128 .f32) (h : Vec F S512x7168 .f32) : FVec F S512x7168 .fp8e4m3 :=
  k0_pay2 (k0_pay16 (k0_pay10 am) (k0_pay11 am) (k0_pay12 am) (k0_pay13 am) 23#32) k0_pay17 h

end Cert.KernelIdeal.Body

end
-- ==== Proof.KI.RunA.lean ====
module

public import proofs.«01_k».proof.Proof.KI.Base

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a point of this case: it runs, leaving the inputs as they were and the outputs and the scratch at the values of the point. -/
theorem runA (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x4096 .bf16) (x1 : Vec F S4096x512 .fp8e4m3) (x2 : Vec F S4096x512 .fp8e4m3) (x3 : Vec F S1x512 .f32) (x4 : Vec F S1x512 .f32) (d5 : Vec F S512x1 .f32) (d6 : Vec F S512x7168 .fp8e4m3) (ds0 : Vec F S512x7168 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ (∃ d, owns (c : Thread nD τ) arg9 fullShare d) ∗ (∃ d, owns (c : Thread nD τ) arg10 fullShare d) ∗ owns (c : Thread nD τ) arg11 fullShare ds0 ∗ (∃ d, owns (c : Thread nD τ) arg12 fullShare d) ∗ (∃ d, owns (c : Thread nD τ) arg13 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (xcOf x0) ∗ owns (c : Thread nD τ) arg10 fullShare (xsOf x0) ∗ owns (c : Thread nD τ) arg11 fullShare (hOf (xlOf x0) (xcOf x0) x1 x2 x3 x4 i ds0) ∗ owns (c : Thread nD τ) arg12 fullShare (amOf (xlOf x0) (xcOf x0) x1 x2 x3 x4 k0_pay20) ∗ owns (c : Thread nD τ) arg13 fullShare (xlOf x0)) -∗ K ⟨⟩)) ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12 arg13 harg13) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fd5, %hfd5, H5⟩, ⟨%fd6, %hfd6, H6⟩, ⟨%d7, %fd7, -, H7⟩, ⟨%d8, %fd8, -, H8⟩, ⟨%fds0, %hfds0, HS0⟩, ⟨%ds1, %fds1, -, HS1⟩, ⟨%ds2, %fds2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfd5; obtain rfl := harg8.eq_unread hfd6; obtain rfl := harg11.eq_unread hfds0
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; frame_out; rw [View.read_writes_full]; try rfl
  isplitl [H8]
  · iexists _; isplitr; swap; · iexact H8
    ipureintro; frame_out; rw [View.read_writes_full]; try rfl
  isplitl [HS0]
  · iexists _; isplitr; swap; · iexact HS0
    ipureintro; frame_out; rw [View.read_writes_cons_put _ _ _ _ _ rfl, View.read_writes_cons_put _ _ _ _ _ rfl, View.writes_nil, harg11.read_unread]; try rfl
  isplitl [HS1]
  · iexists _; isplitr; swap; · iexact HS1
    ipureintro; frame_out; rw [View.read_writes_full]; try rfl
  iexists _; isplitr; swap; · iexact HS2
  ipureintro; frame_out; rw [View.read_writes_full]; try rfl
end Cert.KernelIdeal.Body

end
-- ==== Proof.KI.RunB.lean ====
module

public import proofs.«01_k».proof.Proof.KI.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a point of this case: it runs, leaving the inputs as they were and the outputs and the scratch at the values of the point. -/
theorem runB (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x4096 .bf16) (x1 : Vec F S4096x512 .fp8e4m3) (x2 : Vec F S4096x512 .fp8e4m3) (x3 : Vec F S1x512 .f32) (x4 : Vec F S1x512 .f32) (d5 : Vec F S512x1 .f32) (d6 : Vec F S512x7168 .fp8e4m3) (d7 : Vec F S512x4096 .fp8e4m3) (d8 : Vec F S512x1 .f32) (ds0 : Vec F S512x7168 .f32) (ds1 : Vec F S512x128 .f32) (ds2 : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare ds0 ∗ owns (c : Thread nD τ) arg12 fullShare ds1 ∗ owns (c : Thread nD τ) arg13 fullShare ds2 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare (hOf ds2 d7 x1 x2 x3 x4 i ds0) ∗ owns (c : Thread nD τ) arg12 fullShare (amOf ds2 d7 x1 x2 x3 x4 ds1) ∗ owns (c : Thread nD τ) arg13 fullShare ds2) -∗ K ⟨⟩)) ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12 arg13 harg13) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fd5, %hfd5, H5⟩, ⟨%fd6, %hfd6, H6⟩, ⟨%fd7, %hfd7, H7⟩, ⟨%fd8, %hfd8, H8⟩, ⟨%fds0, %hfds0, HS0⟩, ⟨%fds1, %hfds1, HS1⟩, ⟨%fds2, %hfds2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfd5; obtain rfl := harg8.eq_unread hfd6; obtain rfl := harg9.eq_unread hfd7; obtain rfl := harg10.eq_unread hfd8; obtain rfl := harg11.eq_unread hfds0; obtain rfl := harg12.eq_unread hfds1; obtain rfl := harg13.eq_unread hfds2
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [HS0]
  · iexists _; isplitr; swap; · iexact HS0
    ipureintro; frame_out; rw [View.read_writes_cons_put _ _ _ _ _ rfl, View.read_writes_cons_put _ _ _ _ _ rfl, View.writes_nil, harg11.read_unread]; try rfl
  isplitl [HS1]
  · iexists _; isplitr; swap; · iexact HS1
    ipureintro; frame_out; rw [View.read_writes_full]; try rfl
  iexists _; isplitr; swap; · iexact HS2
  ipureintro; exact harg13.read_unread _
end Cert.KernelIdeal.Body

end
-- ==== Proof.KI.RunC.lean ====
module

public import proofs.«01_k».proof.Proof.KI.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a point of this case: it runs, leaving the inputs as they were and the outputs and the scratch at the values of the point. -/
theorem runC (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x4096 .bf16) (x1 : Vec F S4096x512 .fp8e4m3) (x2 : Vec F S4096x512 .fp8e4m3) (x3 : Vec F S1x512 .f32) (x4 : Vec F S1x512 .f32) (d7 : Vec F S512x4096 .fp8e4m3) (d8 : Vec F S512x1 .f32) (ds0 : Vec F S512x7168 .f32) (ds1 : Vec F S512x128 .f32) (ds2 : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d7 ∗ owns (c : Thread nD τ) arg10 fullShare d8 ∗ owns (c : Thread nD τ) arg11 fullShare ds0 ∗ owns (c : Thread nD τ) arg12 fullShare ds1 ∗ owns (c : Thread nD τ) arg13 fullShare ds2 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hsOf (amOf ds2 d7 x1 x2 x3 x4 ds1)) ∗ owns (c : Thread nD τ) arg8 fullShare (hcOf (amOf ds2 d7 x1 x2 x3 x4 ds1) (hOf ds2 d7 x1 x2 x3 x4 i ds0)) ∗ owns (c : Thread nD τ) arg9 fullShare d7 ∗ owns (c : Thread nD τ) arg10 fullShare d8 ∗ owns (c : Thread nD τ) arg11 fullShare (hOf ds2 d7 x1 x2 x3 x4 i ds0) ∗ owns (c : Thread nD τ) arg12 fullShare (amOf ds2 d7 x1 x2 x3 x4 ds1) ∗ owns (c : Thread nD τ) arg13 fullShare ds2) -∗ K ⟨⟩)) ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12 arg13 harg13) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %fd5, -, H5⟩, ⟨%d6, %fd6, -, H6⟩, ⟨%fd7, %hfd7, H7⟩, ⟨%fd8, %hfd8, H8⟩, ⟨%fds0, %hfds0, HS0⟩, ⟨%fds1, %hfds1, HS1⟩, ⟨%fds2, %hfds2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfd7; obtain rfl := harg10.eq_unread hfd8; obtain rfl := harg11.eq_unread hfds0; obtain rfl := harg12.eq_unread hfds1; obtain rfl := harg13.eq_unread hfds2
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; rw [View.read_writes_full]; frame_out; try rfl
  isplitl [H6]
  · iexists _; isplitr; swap; · iexact H6
    ipureintro; rw [View.read_writes_full]; frame_out; unfold hcOf; refine congrArg (k0_pay2 _ k0_pay17) ?_; rw [View.read_writes_cons_put _ _ _ _ _ rfl, View.read_writes_cons_put _ _ _ _ _ rfl, View.writes_nil, harg11.read_unread]; rfl
  isplitl [H7]
  · iexists _; isplitr; swap; · iexact H7
    ipureintro; exact harg9.read_unread _
  isplitl [H8]
  · iexists _; isplitr; swap; · iexact H8
    ipureintro; exact harg10.read_unread _
  isplitl [HS0]
  · iexists _; isplitr; swap; · iexact HS0
    ipureintro; frame_out; rw [View.read_writes_cons_put _ _ _ _ _ rfl, View.read_writes_cons_put _ _ _ _ _ rfl, View.writes_nil, harg11.read_unread]; try rfl
  isplitl [HS1]
  · iexists _; isplitr; swap; · iexact HS1
    ipureintro; frame_out; rw [View.read_writes_full]; try rfl
  iexists _; isplitr; swap; · iexact HS2
  ipureintro; exact harg13.read_unread _
end Cert.KernelIdeal.Body

end
-- ==== Proof.KI.Dats.lean ====
module

public import proofs.«01_k».proof.Proof.KI.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute, over the arrays as launched -/

/-- The tiles of `h` at a point, -/
def t0At (c : Dev nD) (t : Fin cfg0.N) : Vec F S512x256 .f32 :=
  tile0 (xlOf (iblk m c 0 t)) (xcOf (iblk m c 0 t)) (iblk m c 1 t) (iblk m c 2 t) (iblk m c 3 t) (iblk m c 4 t)
def t1At (c : Dev nD) (t : Fin cfg0.N) : Vec F S512x256 .f32 :=
  tile1 (xlOf (iblk m c 0 t)) (xcOf (iblk m c 0 t)) (iblk m c 1 t) (iblk m c 2 t) (iblk m c 3 t) (iblk m c 4 t)
/-- one step of the running maximum, -/
def amStep (c : Dev nD) (t : Fin cfg0.N) (am : Vec F S512x128 .f32) : Vec F S512x128 .f32 :=
  amOf (xlOf (iblk m c 0 t)) (xcOf (iblk m c 0 t)) (iblk m c 1 t) (iblk m c 2 t) (iblk m c 3 t) (iblk m c 4 t) am
/-- and the running maximum after a point: reset at the first point of a row block. -/
def amAt (c : Dev nD) : (n : ℕ) → n < cfg0.N → Vec F S512x128 .f32
  | 0, hn => amStep m c ⟨0, hn⟩ k0_pay20
  | n + 1, hn => amStep m c ⟨n + 1, hn⟩ (if (n + 1) % 14 = 0 then k0_pay20 else amAt c n (Nat.lt_of_succ_lt hn))

theorem amAt_reset (c : Dev nD) (t : Fin cfg0.N) (h : t.val % 14 = 0) : amAt m c t.val t.isLt = amStep m c t k0_pay20 := by
  obtain ⟨n, hn⟩ := t
  cases n with
  | zero => rfl
  | succ n => simp only [amAt, if_pos h]
theorem amAt_step (c : Dev nD) (t : Fin cfg0.N) (h : t.val % 14 ≠ 0) :
    amAt m c t.val t.isLt = amStep m c t (amAt m c (t.val - 1) (Nat.lt_of_le_of_lt (Nat.sub_le _ _) t.isLt)) := by
  obtain ⟨n, hn⟩ := t
  cases n with
  | zero => exact absurd rfl h
  | succ n =>
    show amStep m c ⟨n + 1, hn⟩ (if (n + 1) % 14 = 0 then k0_pay20 else amAt m c n (Nat.lt_of_succ_lt hn)) = amStep m c ⟨n + 1, hn⟩ (amAt m c n (Nat.lt_of_succ_lt hn))
    rw [if_neg h]

/-- The `k`-th point of the row block of point `t`. -/
def runPt (t : Fin cfg0.N) (k : Fin 14) : Fin cfg0.N :=
  ⟨14 * (t.val / 14) + k.val, by have h := t.isLt; have hN : cfg0.N = 168 := N_0; omega⟩

/-- The whole row block of `h`, column by column from the tile of the point that computes it. -/
def hv (c : Dev nD) (t : Fin cfg0.N) : Vec F S512x7168 .f32 := fun y =>
  if (y 1).val % 512 < 256 then
    t0At m c (runPt t ⟨(y 1).val / 512, by have h : (y 1).val < 7168 := (y 1).isLt; omega⟩) (ix2 (y 0) ⟨(y 1).val % 256, by omega⟩)
  else
    t1At m c (runPt t ⟨(y 1).val / 512, by have h : (y 1).val < 7168 := (y 1).isLt; omega⟩) (ix2 (y 0) ⟨(y 1).val % 256, by omega⟩)

/-- The row block is right on the columns computed up to point `t`. -/
def HOk (c : Dev nD) (t : Fin cfg0.N) (d : Vec F S512x7168 .f32) : Prop :=
  ∀ y : S512x7168.Idx, (y 1).val < 512 * (t.val % 14 + 1) → d y = hv m c t y

/-- A point's two stores, at an index. -/
theorem hOf_apply (xl : Vec F S512x128 .f32) (xc : Vec F S512x4096 .fp8e4m3) (x1 x2 : Vec F S4096x512 .fp8e4m3) (x3 x4 : Vec F S1x512 .f32)
    (t : Fin cfg0.N) (d : Vec F S512x7168 .f32) (y : S512x7168.Idx) :
    hOf xl xc x1 x2 x3 x4 (grid0.coords t) d y =
      if (y 1).val / 512 = t.val % 14 then
        (if (y 1).val % 512 < 256 then tile0 xl xc x1 x2 x3 x4 (ix2 (y 0) ⟨(y 1).val % 256, by omega⟩)
        else tile1 xl xc x1 x2 x3 x4 (ix2 (y 0) ⟨(y 1).val % 256, by omega⟩))
      else d y := by
  have e1 : (grid0.coords t 1).val = t.val / 1 % 14 := Pipeline.Grid.coords_val t 1 (by decide) rfl
  rw [Nat.div_one] at e1
  have o0 : k0_off1 (grid0.coords t) 0#32 = ![0, 512 * (t.val % 14)] := by
    have := k0_off1_eq (grid0.coords t) 0; rw [e1] at this; exact this
  have o1 : k0_off1 (grid0.coords t) 256#32 = ![0, 512 * (t.val % 14) + 256] := by
    have := k0_off1_eq (grid0.coords t) 1; rw [e1] at this; exact this
  have hy0 : (y 0).val < 512 := (y 0).isLt
  have hy1 : (y 1).val < 7168 := (y 1).isLt
  unfold hOf VecWindow.put
  rw [o0, o1]
  by_cases hq : (y 1).val / 512 = t.val % 14
  · rw [if_pos hq]
    by_cases hr : (y 1).val % 512 < 256
    · rw [if_pos hr, dif_neg, dif_pos]
      · congr 1; funext a
        match a with
        | ⟨0, _⟩ => exact Fin.ext (by show (y 0).val - 0 = (y 0).val; omega)
        | ⟨1, _⟩ => exact Fin.ext (by show (y 1).val - 512 * (t.val % 14) = (y 1).val % 256; omega)
      · intro a
        match a with
        | ⟨0, _⟩ => exact ⟨Nat.zero_le _, by show (y 0).val < 0 + 512; omega⟩
        | ⟨1, _⟩ => exact ⟨by show 512 * (t.val % 14) ≤ (y 1).val; omega, by show (y 1).val < 512 * (t.val % 14) + 256; omega⟩
      · intro h
        have := (h 1).1
        have h2 : 512 * (t.val % 14) + 256 ≤ (y 1).val := this
        omega
    · rw [if_neg hr, dif_pos]
      · congr 1; funext a
        match a with
        | ⟨0, _⟩ => exact Fin.ext (by show (y 0).val - 0 = (y 0).val; omega)
        | ⟨1, _⟩ => exact Fin.ext (by show (y 1).val - (512 * (t.val % 14) + 256) = (y 1).val % 256; omega)
      · intro a
        match a with
        | ⟨0, _⟩ => exact ⟨Nat.zero_le _, by show (y 0).val < 0 + 512; omega⟩
        | ⟨1, _⟩ => exact ⟨by show 512 * (t.val % 14) + 256 ≤ (y 1).val; omega, by show (y 1).val < 512 * (t.val % 14) + 256 + 256; omega⟩
  · rw [if_neg hq, dif_neg, dif_neg]
    · intro h
      have h1 : 512 * (t.val % 14) ≤ (y 1).val := (h 1).1
      have h2 : (y 1).val < 512 * (t.val % 14) + 256 := (h 1).2
      omega
    · intro h
      have h1 : 512 * (t.val % 14) + 256 ≤ (y 1).val := (h 1).1
      have h2 : (y 1).val < 512 * (t.val % 14) + 256 + 256 := (h 1).2
      omega

theorem runPt_self (t : Fin cfg0.N) (k : Fin 14) (h : k.val = t.val % 14) : runPt t k = t :=
  Fin.ext (by show 14 * (t.val / 14) + k.val = t.val; omega)

/-- The columns stored at a point are right, -/
theorem hOf_self (c : Dev nD) (t : Fin cfg0.N) (d : Vec F S512x7168 .f32) (y : S512x7168.Idx) (hq : (y 1).val / 512 = t.val % 14) :
    hOf (xlOf (iblk m c 0 t)) (xcOf (iblk m c 0 t)) (iblk m c 1 t) (iblk m c 2 t) (iblk m c 3 t) (iblk m c 4 t) (grid0.coords t) d y = hv m c t y := by
  rw [hOf_apply, if_pos hq]; unfold hv t0At t1At; rw [runPt_self t _ hq]

/-- so the first point of a row block establishes them whatever the buffer held, -/
theorem HOk_reset (c : Dev nD) (t : Fin cfg0.N) (h : t.val % 14 = 0) (d : Vec F S512x7168 .f32) :
    HOk m c t (hOf (xlOf (iblk m c 0 t)) (xcOf (iblk m c 0 t)) (iblk m c 1 t) (iblk m c 2 t) (iblk m c 3 t) (iblk m c 4 t) (grid0.coords t) d) :=
  fun y hy => hOf_self m c t d y (by omega)

/-- and every later point of it keeps the ones before. -/
theorem HOk_step (c : Dev nD) (t : Fin cfg0.N) (h : t.val % 14 ≠ 0) (d : Vec F S512x7168 .f32)
    (hd : HOk m c ⟨t.val - 1, Nat.lt_of_le_of_lt (Nat.sub_le _ _) t.isLt⟩ d) :
    HOk m c t (hOf (xlOf (iblk m c 0 t)) (xcOf (iblk m c 0 t)) (iblk m c 1 t) (iblk m c 2 t) (iblk m c 3 t) (iblk m c 4 t) (grid0.coords t) d) :=
  fun y hy => by
    by_cases hq : (y 1).val / 512 = t.val % 14
    · exact hOf_self m c t d y hq
    · rw [hOf_apply, if_neg hq, hd y (by show (y 1).val < 512 * ((t.val - 1) % 14 + 1); omega)]
      unfold hv
      have e : ∀ k, runPt ⟨t.val - 1, Nat.lt_of_le_of_lt (Nat.sub_le _ _) t.isLt⟩ k = runPt t k := fun k =>
        Fin.ext (by show 14 * ((t.val - 1) / 14) + k.val = 14 * (t.val / 14) + k.val; omega)
      rw [e]

theorem HOk_full (c : Dev nD) (t : Fin cfg0.N) (h : t.val % 14 = 13) (d : Vec F S512x7168 .f32) (hd : HOk m c t d) : d = hv m c t :=
  funext fun y => hd y (by have h1 : (y 1).val < 7168 := (y 1).isLt; omega)

/-! ## The idle points of the outputs -/

theorem liveAt5_of (t : Fin cfg0.N) (h : t.val % 14 = 13) : cfg0.idle 5 (grid0.coords t) = false := by
  show (!(k0_cond2 (grid0.coords t) == 1#1)) = false
  rw [show k0_cond2 (grid0.coords t) = 1#1 from (hcond0_1 t).mpr h]; rfl
theorem liveAt6_of (t : Fin cfg0.N) (h : t.val % 14 = 13) : cfg0.idle 6 (grid0.coords t) = false := by
  show (!(k0_cond2 (grid0.coords t) == 1#1)) = false
  rw [show k0_cond2 (grid0.coords t) = 1#1 from (hcond0_1 t).mpr h]; rfl
theorem idleAt5_of (t : Fin cfg0.N) (h : t.val % 14 ≠ 13) : cfg0.idle 5 (grid0.coords t) = true := by
  show (!(k0_cond2 (grid0.coords t) == 1#1)) = true
  rw [beq_eq_false_iff_ne.mpr (show k0_cond2 (grid0.coords t) ≠ 1#1 from fun e => h ((hcond0_1 t).mp e))]; rfl
theorem idleAt6_of (t : Fin cfg0.N) (h : t.val % 14 ≠ 13) : cfg0.idle 6 (grid0.coords t) = true := by
  show (!(k0_cond2 (grid0.coords t) == 1#1)) = true
  rw [beq_eq_false_iff_ne.mpr (show k0_cond2 (grid0.coords t) ≠ 1#1 from fun e => h ((hcond0_1 t).mp e))]; rfl
theorem liveAt7_of (t : Fin cfg0.N) (h : t.val % 14 = 0) : cfg0.idle 7 (grid0.coords t) = false := by
  show (!(k0_cond1 (grid0.coords t) == 1#1)) = false
  rw [show k0_cond1 (grid0.coords t) = 1#1 from (hcond0_0 t).mpr h]; rfl
theorem liveAt8_of (t : Fin cfg0.N) (h : t.val % 14 = 0) : cfg0.idle 8 (grid0.coords t) = false := by
  show (!(k0_cond1 (grid0.coords t) == 1#1)) = false
  rw [show k0_cond1 (grid0.coords t) = 1#1 from (hcond0_0 t).mpr h]; rfl
theorem idleAt7_of (t : Fin cfg0.N) (h : t.val % 14 ≠ 0) : cfg0.idle 7 (grid0.coords t) = true := by
  show (!(k0_cond1 (grid0.coords t) == 1#1)) = true
  rw [beq_eq_false_iff_ne.mpr (show k0_cond1 (grid0.coords t) ≠ 1#1 from fun e => h ((hcond0_0 t).mp e))]; rfl
theorem idleAt8_of (t : Fin cfg0.N) (h : t.val % 14 ≠ 0) : cfg0.idle 8 (grid0.coords t) = true := by
  show (!(k0_cond1 (grid0.coords t) == 1#1)) = true
  rw [beq_eq_false_iff_ne.mpr (show k0_cond1 (grid0.coords t) ≠ 1#1 from fun e => h ((hcond0_0 t).mp e))]; rfl

/-! ## The proof data -/

/-- The invariant: at first nothing is known of the scratch; after a point the row block is right on the columns computed, the running maximum and the lane scales are the point's. -/
def PhiS (c : Dev nD) : (n : ℕ) → n ≤ cfg0.N → sProp 𝕄
  | 0, _ => Pipeline.ΦA spec0 c
  | n + 1, hn => iprop(iprop((∃ d, ⌜HOk m c ⟨n, hn⟩ d⌝ ∗ owns (c : Thread nD τ) scM0_0 fullShare d) ∗ owns (c : Thread nD τ) scM0_1 fullShare (amAt m c n hn) ∗ owns (c : Thread nD τ) scM0_2 fullShare (xlOf (iblk m c 0 ⟨n, hn⟩))) ∗ (∃ r, prngReg c r))

theorem PhiS_succ (c : Dev nD) (n : ℕ) (hn : n < cfg0.N) :
    PhiS m c (n + 1) hn = iprop(iprop((∃ d, ⌜HOk m c ⟨n, hn⟩ d⌝ ∗ owns (c : Thread nD τ) scM0_0 fullShare d) ∗ owns (c : Thread nD τ) scM0_1 fullShare (amAt m c n hn) ∗ owns (c : Thread nD τ) scM0_2 fullShare (xlOf (iblk m c 0 ⟨n, hn⟩))) ∗ (∃ r, prngReg c r)) := rfl

theorem PhiS_pos (c : Dev nD) (n : ℕ) (h : n ≤ cfg0.N) (hz : n ≠ 0) :
    PhiS m c n h = iprop(iprop((∃ d, ⌜HOk m c ⟨n - 1, by omega⟩ d⌝ ∗ owns (c : Thread nD τ) scM0_0 fullShare d) ∗ owns (c : Thread nD τ) scM0_1 fullShare (amAt m c (n - 1) (by omega)) ∗ owns (c : Thread nD τ) scM0_2 fullShare (xlOf (iblk m c 0 ⟨n - 1, by omega⟩))) ∗ (∃ r, prngReg c r)) := by
  cases n with
  | zero => exact absurd rfl hz
  | succ n => rfl

/-- The invariant gives back what the launch handed in. -/
theorem PhiS_out (c : Dev nD) (n : ℕ) (h : n ≤ cfg0.N) : PhiS m c n h ⊢ Pipeline.ΦA spec0 c := by
  by_cases hz : n = 0
  · subst hz; exact .rfl
  · rw [PhiS_pos m c n h hz, PhiA0_eq]
    iintro ⟨⟨⟨%d, -, HS0⟩, HS1, HS2⟩, Hg⟩
    isplitl [HS0 HS1 HS2]
    · isplitl [HS0]
      · iexists _; iexact HS0
      isplitl [HS1]
      · iexists _; iexact HS1
      iexists _; iexact HS2
    iexact Hg

/-- The pipeline's proof data: what the body leaves in each window's buffer at each point. -/
def dats : (p : Fin 1) → (c : Dev nD) → Dat τ (Elt F) Unit ℕ (UR sig nD τ) ℕ (cfgs p) c := fun _ c => {
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsOf (amAt m c t.val t.isLt)
    | ⟨6, _⟩ => hcOf (amAt m c t.val t.isLt) (hv m c t)
    | ⟨7, _⟩ => xcOf (iblk m c 0 t)
    | ⟨8, _⟩ => xsOf (iblk m c 0 t)
  Φ t := PhiS m c t.val (Nat.le_of_lt_succ t.isLt)
  q w := Pipeline.shareOf spec0 w
  owed _ := 0 }

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hsOf (amAt m c t.val t.isLt) := by dsimp only [dats]
theorem after0_6 (c : Dev nD) (t : Fin cfg0.N) : (dats m 0 c).after 6 t = hcOf (amAt m c t.val t.isLt) (hv m c t) := by dsimp only [dats]
theorem after0_7 (c : Dev nD) (t : Fin cfg0.N) : (dats m 0 c).after 7 t = xcOf (iblk m c 0 t) := by dsimp only [dats]
theorem after0_8 (c : Dev nD) (t : Fin cfg0.N) : (dats m 0 c).after 8 t = xsOf (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The activation block of a point that does not fetch it is the one of the point before. -/
theorem iblk0_prev (c : Dev nD) (t : Fin cfg0.N) (h : t.val % 14 ≠ 0) :
    iblk m c 0 t = iblk m c 0 ⟨t.val - 1, Nat.lt_of_le_of_lt (Nat.sub_le _ _) t.isLt⟩ := by
  have hf : (cfg0.win 0).fetch t = false := Bool.eq_false_iff.mpr fun e => h ((fetch0_0 t).mp e)
  have hi := (Pipeline.Window.index_eq_of_fetch (cfg0.win 0) rfl t hf).2
  have e : ∀ (t : Fin cfg0.N) d, (dats m 0 c).fetched 0 t d = iblk m c 0 t := fun t d => by
    unfold Dat.fetched Dat.blockOf iblk; rw [A_eq]; try rfl
  have d0 : ((cfg0.win 0).block.Idx → Elt F (cfg0.win 0).elt) := iblk m c 0 t
  exact (e t d0).symm.trans ((Dat.fetched_congr (dats m 0 c) 0 hi rfl d0).trans (e _ d0))

/-- Output window 7 at a point that is not the first of its row block still holds what the first point left. -/
theorem before0_7 (c : Dev nD) (n : ℕ) (hn : n < cfg0.N) (h0 : n % 14 ≠ 0) (d) : (dats m 0 c).before 7 ⟨n, hn⟩ d = xcOf (iblk m c 0 ⟨n, hn⟩) := by
  induction n with
  | zero => exact absurd rfl h0
  | succ n ih =>
    have hN : cfg0.N = 168 := N_0
    rw [iblk0_prev m c ⟨n + 1, hn⟩ h0]
    rw [Dat.before_of_pos _ 7 ⟨n + 1, hn⟩ (Nat.succ_ne_zero n) (Window.fetch_out _ rfl _)]
    rw [if_neg (fun h => by have := (flush0_7 ⟨n, Nat.lt_of_succ_lt hn⟩).mp h; simp only at this; omega)]
    unfold Dat.left
    by_cases hz : n % 14 = 0
    · have e : cfg0.idle 7 (cfg0.grid.coords ⟨(⟨n + 1, hn⟩ : Fin cfg0.N).val - 1, Nat.lt_of_succ_lt hn⟩) = false := liveAt7_of ⟨n, Nat.lt_of_succ_lt hn⟩ hz
      rw [e]
      exact (show (dats m 0 c).kept 7 ⟨n, Nat.lt_of_succ_lt hn⟩ d = (dats m 0 c).after 7 ⟨n, Nat.lt_of_succ_lt hn⟩ from rfl).trans (after0_7 m c ⟨n, Nat.lt_of_succ_lt hn⟩)
    · have e : cfg0.idle 7 (cfg0.grid.coords ⟨(⟨n + 1, hn⟩ : Fin cfg0.N).val - 1, Nat.lt_of_succ_lt hn⟩) = true := idleAt7_of ⟨n, Nat.lt_of_succ_lt hn⟩ hz
      rw [e]
      exact ih (Nat.lt_of_succ_lt hn) hz
/-- Output window 8 at a point that is not the first of its row block still holds what the first point left. -/
theorem before0_8 (c : Dev nD) (n : ℕ) (hn : n < cfg0.N) (h0 : n % 14 ≠ 0) (d) : (dats m 0 c).before 8 ⟨n, hn⟩ d = xsOf (iblk m c 0 ⟨n, hn⟩) := by
  induction n with
  | zero => exact absurd rfl h0
  | succ n ih =>
    have hN : cfg0.N = 168 := N_0
    rw [iblk0_prev m c ⟨n + 1, hn⟩ h0]
    rw [Dat.before_of_pos _ 8 ⟨n + 1, hn⟩ (Nat.succ_ne_zero n) (Window.fetch_out _ rfl _)]
    rw [if_neg (fun h => by have := (flush0_8 ⟨n, Nat.lt_of_succ_lt hn⟩).mp h; simp only at this; omega)]
    unfold Dat.left
    by_cases hz : n % 14 = 0
    · have e : cfg0.idle 8 (cfg0.grid.coords ⟨(⟨n + 1, hn⟩ : Fin cfg0.N).val - 1, Nat.lt_of_succ_lt hn⟩) = false := liveAt8_of ⟨n, Nat.lt_of_succ_lt hn⟩ hz
      rw [e]
      exact (show (dats m 0 c).kept 8 ⟨n, Nat.lt_of_succ_lt hn⟩ d = (dats m 0 c).after 8 ⟨n, Nat.lt_of_succ_lt hn⟩ from rfl).trans (after0_8 m c ⟨n, Nat.lt_of_succ_lt hn⟩)
    · have e : cfg0.idle 8 (cfg0.grid.coords ⟨(⟨n + 1, hn⟩ : Fin cfg0.N).val - 1, Nat.lt_of_succ_lt hn⟩) = true := idleAt8_of ⟨n, Nat.lt_of_succ_lt hn⟩ hz
      rw [e]
      exact ih (Nat.lt_of_succ_lt hn) hz

end Cert.KernelIdeal.Body

end
-- ==== Proof.KI.Body.lean ====
module

public import proofs.«01_k».proof.Proof.KI.Dats

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 168 := lt_of_lt_of_eq t.isLt (show cfg0.N = 168 from N_0)
  by_cases h0 : t.val % 14 = 0
  · have h1 : t.val % 14 ≠ 13 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [Dat.leavesExact_idle (dats m 0 c) 5 t (idleAt5_of t h1) (Bool.eq_false_iff.mpr fun e => h1 ((flush0_5 t).mp e))]
    rw [Dat.leavesExact_idle (dats m 0 c) 6 t (idleAt6_of t h1) (Bool.eq_false_iff.mpr fun e => h1 ((flush0_6 t).mp e))]
    rw [show (dats m 0 c).leavesExact 7 t = owns (c : Thread nD τ) (ms0_7 t) fullShare ((dats m 0 c).after 7 t) from by
      unfold Dat.leavesExact; rw [liveAt7_of t h0], after0_7]
    rw [show (dats m 0 c).leavesExact 8 t = owns (c : Thread nD τ) (ms0_8 t) fullShare ((dats m 0 c).after 8 t) from by
      unfold Dat.leavesExact; rw [liveAt8_of t h0], after0_8]
    have hPhi : (dats m 0 c).Φ t.castSucc ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
      rw [PhiS_castSucc m c t, ← PhiA0_eq]; exact PhiS_out m c _ _
    refine Idealize.SL.BI.BIBase.Entails.trans (Idealize.SL.BI.Laws.sep_mono_left hPhi) ?_
    rw [amAt_reset m c t h0]
    unfold amStep
    iintro ⟨⟨⟨⟨%ds0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _ ds0 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexists _; isplitr
          swap; · iexact HS0
          ipureintro; exact HOk_reset m c t h0 ds0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iexact H8
  · have hz : t.val ≠ 0 := fun e => h0 (by rw [e])
    by_cases h1 : t.val % 14 = 13
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt5_of t h1], after0_5]
      rw [show (dats m 0 c).leavesExact 6 t = owns (c : Thread nD τ) (ms0_6 t) fullShare ((dats m 0 c).after 6 t) from by
        unfold Dat.leavesExact; rw [liveAt6_of t h1], after0_6]
      rw [show (dats m 0 c).leavesExact 7 t = owns (c : Thread nD τ) (ms0_7 t) fullShare ((dats m 0 c).after 7 t) from by
        unfold Dat.leavesExact; rw [idleAt7_of t h0, (flush0_7 t).mpr h1], after0_7]
      rw [show (dats m 0 c).leavesExact 8 t = owns (c : Thread nD τ) (ms0_8 t) fullShare ((dats m 0 c).after 8 t) from by
        unfold Dat.leavesExact; rw [idleAt8_of t h0, (flush0_8 t).mpr h1], after0_8]
      simp only [before0_7 m c t.val t.isLt h0, before0_8 m c t.val t.isLt h0]
      rw [PhiS_castSucc m c t, PhiS_pos m c _ _ hz]
      rw [amAt_step m c t h0]
      unfold amStep
      iintro ⟨⟨⟨⟨%ds0, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [← iblk0_prev m c t h0]
      rw [← HOk_full m c t h1 _ (HOk_step m c t h0 ds0 hd)]
      iapply (runC c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xcOf (iblk m c 0 t)) (xsOf (iblk m c 0 t)) ds0 (amAt m c (t.val - 1) (Nat.lt_of_le_of_lt (Nat.sub_le _ _) t.isLt)) (xlOf (iblk m c 0 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · iexists _; isplitr
            swap; · iexact HS0
            ipureintro; exact HOk_step m c t h0 ds0 hd
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt5_of t h1) (Bool.eq_false_iff.mpr fun e => h1 ((flush0_5 t).mp e))]
      rw [Dat.leavesExact_idle (dats m 0 c) 6 t (idleAt6_of t h1) (Bool.eq_false_iff.mpr fun e => h1 ((flush0_6 t).mp e))]
      rw [Dat.leavesExact_idle (dats m 0 c) 7 t (idleAt7_of t h0) (Bool.eq_false_iff.mpr fun e => h1 ((flush0_7 t).mp e))]
      rw [Dat.leavesExact_idle (dats m 0 c) 8 t (idleAt8_of t h0) (Bool.eq_false_iff.mpr fun e => h1 ((flush0_8 t).mp e))]
      rw [PhiS_castSucc m c t, PhiS_pos m c _ _ hz]
      rw [amAt_step m c t h0]
      unfold amStep
      iintro ⟨⟨⟨⟨%ds0, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [← iblk0_prev m c t h0]
      have e7 := before0_7 m c t.val t.isLt h0 d7
      have e8 := before0_8 m c t.val t.isLt h0 d8
      iapply (runB c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _ _ ds0 (amAt m c (t.val - 1) (Nat.lt_of_le_of_lt (Nat.sub_le _ _) t.isLt)) (xlOf (iblk m c 0 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      rw [e7]
      iintro ⟨H0, H1, H2, H3, H4, H5, H6, H7, H8, HS0, HS1, HS2⟩
      isplitl [HS0 HS1 HS2 Hg]
      · isplitl [HS0 HS1 HS2]
        · isplitl [HS0]
          · iexists _; isplitr
            swap; · iexact HS0
            ipureintro; exact HOk_step m c t h0 ds0 hd
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists d7; rw [e7]; iexact H7
      iexists _; iexact H8

/-- The body table's row at a point's slots is the body at the point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl]
  exact .rfl

/-- and the invariant after the last gives it back. -/
theorem hout (c : Dev nD) : (dats m 0 c).Φ (Fin.last cfg0.N) ⊢ Pipeline.ΦA spec0 c :=
  by
    rw [show (dats m 0 c).Φ (Fin.last cfg0.N) = PhiS m c (Fin.last cfg0.N).val (Nat.le_of_lt_succ (Fin.last cfg0.N).isLt) from rfl]
    exact PhiS_out m c _ _

/-! ## The run and the frame -/

set_option backward.isDefEq.respectTransparency.types false in
set_option maxHeartbeats 800000 in
/-- The launch, with every window's array at its final value and every semaphore counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main_quiescent m ρ))

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.K.Base.lean ====
module

public import proofs.«01_k».proof.Proof.Gen.Kernel.Frame
public import proofs.«01_k».proof.Proof.Gen.Kernel.Skeleton
public import Idealize.ShloMosaic.Lib.VecWindow
public import Idealize.ShloMosaic.Lib.Pipeline.ValueKit

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

abbrev cond0_1 (i : grid0.Coords) : Prop := k0_cond2 i = 1#1
/-- It holds at the points ≡ 13 (mod 14) — by arithmetic of the point. -/
theorem hcond0_1 : ∀ t : Fin cfg0.N, cond0_1 (grid0.coords t) ↔ t.val % 14 = 13 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val % 14 = 13)

theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)

/-- The three scratch buffers: the row block of `h`, the running lane-wise maximum, the scales over the lanes. -/
abbrev scM0_0 : Memref sig .tc .vmem S512x7168 .f32 := Memref.whole cc0_scratch0
abbrev scM0_1 : Memref sig .tc .vmem S512x128 .f32 := Memref.whole cc0_scratch1
abbrev scM0_2 : Memref sig .tc .vmem S512x128 .f32 := Memref.whole cc0_scratch2

/-- What the launch hands in and takes back: the scratch buffers and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The values one grid point computes, over the blocks it reads. The power-of-two scale of each row of an activation block. -/
def xsOf (x0 : Vec F S512x4096 .bf16) : Vec F S512x1 .f32 := k0_pay8 (k0_pay4 x0) (k0_pay5 x0) (k0_pay6 x0) 4#32
/-- The fp8 codes of an activation block. -/
def xcOf (x0 : Vec F S512x4096 .bf16) : Vec F S512x4096 .fp8e4m3 := k0_pay18 (k0_pay3 x0) (k0_pay7 (k0_pay4 x0) (k0_pay5 x0) (k0_pay6 x0) 4#32) k0_pay9
/-- The row scales broadcast over the lanes. -/
def xlOf (x0 : Vec F S512x4096 .bf16) : Vec F S512x128 .f32 := k0_pay19 (xsOf x0)

section
variable (xl : Vec F S512x128 .f32) (xc : Vec F S512x4096 .fp8e4m3) (x1 x2 : Vec F S4096x512 .fp8e4m3) (x3 x4 : Vec F S1x512 .f32)
/-- The columns of the two halves of a block of weights, and of a block of weight scales. -/
abbrev wHalf0 (x : Vec F S4096x512 .fp8e4m3) : Vec F S4096x256 .fp8e4m3 := View.ld x (Rect.unit (s := S4096x512) ![0, 0] S4096x256.size inb_S4096x512_S4096x256_0_0)
abbrev wHalf1 (x : Vec F S4096x512 .fp8e4m3) : Vec F S4096x256 .fp8e4m3 := View.ld x (Rect.unit (s := S4096x512) ![0, 256] S4096x256.size inb_S4096x512_S4096x256_0_256)
abbrev sHalf0 (x : Vec F S1x512 .f32) : Vec F S1x256 .f32 := View.ld x (Rect.unit (s := S1x512) ![0, 0] S1x256.size inb_S1x512_S1x256_0_0)
abbrev sHalf1 (x : Vec F S1x512 .f32) : Vec F S1x256 .f32 := View.ld x (Rect.unit (s := S1x512) ![0, 256] S1x256.size inb_S1x512_S1x256_0_256)
/-- The two tiles of `h` a point computes, -/
def tile0 : FVec F S512x256 .f32 := k0_pay23 xl xc (wHalf0 x1) xc (wHalf0 x2) (sHalf0 x3) (sHalf0 x4)
def tile1 : FVec F S512x256 .f32 := k0_pay27 (k0_pay21 xl) xc (wHalf1 x1) xc (wHalf1 x2) (sHalf1 x3) (sHalf1 x4)
/-- their absolute values, -/
def abs0 : FVec F S512x256 .f32 := k0_pay24 xl xc (wHalf0 x1) xc (wHalf0 x2) (sHalf0 x3) (sHalf0 x4)
def abs1 : FVec F S512x256 .f32 := k0_pay28 (k0_pay21 xl) xc (wHalf1 x1) xc (wHalf1 x2) (sHalf1 x3) (sHalf1 x4)
/-- and the running lane-wise maximum of those after the point. -/
def amOf (am : Vec F S512x128 .f32) : FVec F S512x128 .f32 :=
  k0_pay1 (abs1 xl xc x1 x2 x3 x4) (k0_pay25 (abs0 xl xc x1 x2 x3 x4) am)
/-- The row block of `h` with the two tiles of point `i` put in. -/
def hOf (i : grid0.Coords) (d : Vec F S512x7168 .f32) : Vec F S512x7168 .f32 :=
  VecWindow.put (VecWindow.put d (k0_off1 i 0#32) S512x256.size (tile0 xl xc x1 x2 x3 x4)) (k0_off1 i 256#32) S512x256.size (tile1 xl xc x1 x2 x3 x4)
end
/-- The scales of a row block of `h`, from its lane-wise maximum, -/
def hsOf (am : Vec F S512x128 .f32) : FVec F S512x1 .f32 := k0_pay15 (k0_pay10 am) (k0_pay11 am) (k0_pay12 am) (k0_pay13 am) 23#32
/-- and its fp8 codes. -/
def hcOf (am : Vec F S512x128 .f32) (h : Vec F S512x7168 .f32) : FVec F S512x7168 .fp8e4m3 :=
  k0_pay2 (k0_pay16 (k0_pay10 am) (k0_pay11 am) (k0_pay12 am) (k0_pay13 am) 23#32) k0_pay17 h

end Cert.Kernel.Body

end
-- ==== Proof.K.RunA.lean ====
module

public import proofs.«01_k».proof.Proof.K.Base

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a point of this case: it runs, leaving the inputs as they were and the outputs and the scratch at the values of the point. -/
theorem runA (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i)
    (x0 : Vec F S512x4096 .bf16) (x1 : Vec F S4096x512 .fp8e4m3) (x2 : Vec F S4096x512 .fp8e4m3) (x3 : Vec F S1x512 .f32) (x4 : Vec F S1x512 .f32) (d5 : Vec F S512x1 .f32) (d6 : Vec F S512x7168 .fp8e4m3) (ds0 : Vec F S512x7168 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ (∃ d, owns (c : Thread nD τ) arg9 fullShare d) ∗ (∃ d, owns (c : Thread nD τ) arg10 fullShare d) ∗ owns (c : Thread nD τ) arg11 fullShare ds0 ∗ (∃ d, owns (c : Thread nD τ) arg12 fullShare d) ∗ (∃ d, owns (c : Thread nD τ) arg13 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (xcOf x0) ∗ owns (c : Thread nD τ) arg10 fullShare (xsOf x0) ∗ owns (c : Thread nD τ) arg11 fullShare (hOf (xlOf x0) (xcOf x0) x1 x2 x3 x4 i ds0) ∗ owns (c : Thread nD τ) arg12 fullShare (amOf (xlOf x0) (xcOf x0) x1 x2 x3 x4 k0_pay20) ∗ owns (c : Thread nD τ) arg13 fullShare (xlOf x0)) -∗ K ⟨⟩)) ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12 arg13 harg13) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fd5, %hfd5, H5⟩, ⟨%fd6, %hfd6, H6⟩, ⟨%d7, %fd7, -, H7⟩, ⟨%d8, %fd8, -, H8⟩, ⟨%fds0, %hfds0, HS0⟩, ⟨%ds1, %fds1, -, HS1⟩, ⟨%ds2, %fds2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfd5; obtain rfl := harg8.eq_unread hfd6; obtain rfl := harg11.eq_unread hfds0
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; frame_out; rw [View.read_writes_full]; try rfl
  isplitl [H8]
  · iexists _; isplitr; swap; · iexact H8
    ipureintro; frame_out; rw [View.read_writes_full]; try rfl
  isplitl [HS0]
  · iexists _; isplitr; swap; · iexact HS0
    ipureintro; frame_out; rw [View.read_writes_cons_put _ _ _ _ _ rfl, View.read_writes_cons_put _ _ _ _ _ rfl, View.writes_nil, harg11.read_unread]; try rfl
  isplitl [HS1]
  · iexists _; isplitr; swap; · iexact HS1
    ipureintro; frame_out; rw [View.read_writes_full]; try rfl
  iexists _; isplitr; swap; · iexact HS2
  ipureintro; frame_out; rw [View.read_writes_full]; try rfl
end Cert.Kernel.Body

end
-- ==== Proof.K.RunB.lean ====
module

public import proofs.«01_k».proof.Proof.K.RunA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a point of this case: it runs, leaving the inputs as they were and the outputs and the scratch at the values of the point. -/
theorem runB (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i)
    (x0 : Vec F S512x4096 .bf16) (x1 : Vec F S4096x512 .fp8e4m3) (x2 : Vec F S4096x512 .fp8e4m3) (x3 : Vec F S1x512 .f32) (x4 : Vec F S1x512 .f32) (d5 : Vec F S512x1 .f32) (d6 : Vec F S512x7168 .fp8e4m3) (d7 : Vec F S512x4096 .fp8e4m3) (d8 : Vec F S512x1 .f32) (ds0 : Vec F S512x7168 .f32) (ds1 : Vec F S512x128 .f32) (ds2 : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare ds0 ∗ owns (c : Thread nD τ) arg12 fullShare ds1 ∗ owns (c : Thread nD τ) arg13 fullShare ds2 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare (hOf ds2 d7 x1 x2 x3 x4 i ds0) ∗ owns (c : Thread nD τ) arg12 fullShare (amOf ds2 d7 x1 x2 x3 x4 ds1) ∗ owns (c : Thread nD τ) arg13 fullShare ds2) -∗ K ⟨⟩)) ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12 arg13 harg13) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fd5, %hfd5, H5⟩, ⟨%fd6, %hfd6, H6⟩, ⟨%fd7, %hfd7, H7⟩, ⟨%fd8, %hfd8, H8⟩, ⟨%fds0, %hfds0, HS0⟩, ⟨%fds1, %hfds1, HS1⟩, ⟨%fds2, %hfds2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfd5; obtain rfl := harg8.eq_unread hfd6; obtain rfl := harg9.eq_unread hfd7; obtain rfl := harg10.eq_unread hfd8; obtain rfl := harg11.eq_unread hfds0; obtain rfl := harg12.eq_unread hfds1; obtain rfl := harg13.eq_unread hfds2
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [HS0]
  · iexists _; isplitr; swap; · iexact HS0
    ipureintro; frame_out; rw [View.read_writes_cons_put _ _ _ _ _ rfl, View.read_writes_cons_put _ _ _ _ _ rfl, View.writes_nil, harg11.read_unread]; try rfl
  isplitl [HS1]
  · iexists _; isplitr; swap; · iexact HS1
    ipureintro; frame_out; rw [View.read_writes_full]; try rfl
  iexists _; isplitr; swap; · iexact HS2
  ipureintro; exact harg13.read_unread _
end Cert.Kernel.Body

end
-- ==== Proof.K.RunC.lean ====
module

public import proofs.«01_k».proof.Proof.K.RunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a point of this case: it runs, leaving the inputs as they were and the outputs and the scratch at the values of the point. -/
theorem runC (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i)
    (x0 : Vec F S512x4096 .bf16) (x1 : Vec F S4096x512 .fp8e4m3) (x2 : Vec F S4096x512 .fp8e4m3) (x3 : Vec F S1x512 .f32) (x4 : Vec F S1x512 .f32) (d7 : Vec F S512x4096 .fp8e4m3) (d8 : Vec F S512x1 .f32) (ds0 : Vec F S512x7168 .f32) (ds1 : Vec F S512x128 .f32) (ds2 : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d7 ∗ owns (c : Thread nD τ) arg10 fullShare d8 ∗ owns (c : Thread nD τ) arg11 fullShare ds0 ∗ owns (c : Thread nD τ) arg12 fullShare ds1 ∗ owns (c : Thread nD τ) arg13 fullShare ds2 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hsOf (amOf ds2 d7 x1 x2 x3 x4 ds1)) ∗ owns (c : Thread nD τ) arg8 fullShare (hcOf (amOf ds2 d7 x1 x2 x3 x4 ds1) (hOf ds2 d7 x1 x2 x3 x4 i ds0)) ∗ owns (c : Thread nD τ) arg9 fullShare d7 ∗ owns (c : Thread nD τ) arg10 fullShare d8 ∗ owns (c : Thread nD τ) arg11 fullShare (hOf ds2 d7 x1 x2 x3 x4 i ds0) ∗ owns (c : Thread nD τ) arg12 fullShare (amOf ds2 d7 x1 x2 x3 x4 ds1) ∗ owns (c : Thread nD τ) arg13 fullShare ds2) -∗ K ⟨⟩)) ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12 arg13 harg13) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %fd5, -, H5⟩, ⟨%d6, %fd6, -, H6⟩, ⟨%fd7, %hfd7, H7⟩, ⟨%fd8, %hfd8, H8⟩, ⟨%fds0, %hfds0, HS0⟩, ⟨%fds1, %hfds1, HS1⟩, ⟨%fds2, %hfds2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfd7; obtain rfl := harg10.eq_unread hfd8; obtain rfl := harg11.eq_unread hfds0; obtain rfl := harg12.eq_unread hfds1; obtain rfl := harg13.eq_unread hfds2
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; rw [View.read_writes_full]; frame_out; try rfl
  isplitl [H6]
  · iexists _; isplitr; swap; · iexact H6
    ipureintro; rw [View.read_writes_full]; frame_out; unfold hcOf; refine congrArg (k0_pay2 _ k0_pay17) ?_; rw [View.read_writes_cons_put _ _ _ _ _ rfl, View.read_writes_cons_put _ _ _ _ _ rfl, View.writes_nil, harg11.read_unread]; rfl
  isplitl [H7]
  · iexists _; isplitr; swap; · iexact H7
    ipureintro; exact harg9.read_unread _
  isplitl [H8]
  · iexists _; isplitr; swap; · iexact H8
    ipureintro; exact harg10.read_unread _
  isplitl [HS0]
  · iexists _; isplitr; swap; · iexact HS0
    ipureintro; frame_out; rw [View.read_writes_cons_put _ _ _ _ _ rfl, View.read_writes_cons_put _ _ _ _ _ rfl, View.writes_nil, harg11.read_unread]; try rfl
  isplitl [HS1]
  · iexists _; isplitr; swap; · iexact HS1
    ipureintro; frame_out; rw [View.read_writes_full]; try rfl
  iexists _; isplitr; swap; · iexact HS2
  ipureintro; exact harg13.read_unread _
end Cert.Kernel.Body

end
-- ==== Proof.K.Dats.lean ====
module

public import proofs.«01_k».proof.Proof.K.RunC

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute, over the arrays as launched -/

/-- The tiles of `h` at a point, -/
def t0At (c : Dev nD) (t : Fin cfg0.N) : Vec F S512x256 .f32 :=
  tile0 (xlOf (iblk m c 0 t)) (xcOf (iblk m c 0 t)) (iblk m c 1 t) (iblk m c 2 t) (iblk m c 3 t) (iblk m c 4 t)
def t1At (c : Dev nD) (t : Fin cfg0.N) : Vec F S512x256 .f32 :=
  tile1 (xlOf (iblk m c 0 t)) (xcOf (iblk m c 0 t)) (iblk m c 1 t) (iblk m c 2 t) (iblk m c 3 t) (iblk m c 4 t)
/-- one step of the running maximum, -/
def amStep (c : Dev nD) (t : Fin cfg0.N) (am : Vec F S512x128 .f32) : Vec F S512x128 .f32 :=
  amOf (xlOf (iblk m c 0 t)) (xcOf (iblk m c 0 t)) (iblk m c 1 t) (iblk m c 2 t) (iblk m c 3 t) (iblk m c 4 t) am
/-- and the running maximum after a point: reset at the first point of a row block. -/
def amAt (c : Dev nD) : (n : ℕ) → n < cfg0.N → Vec F S512x128 .f32
  | 0, hn => amStep m c ⟨0, hn⟩ k0_pay20
  | n + 1, hn => amStep m c ⟨n + 1, hn⟩ (if (n + 1) % 14 = 0 then k0_pay20 else amAt c n (Nat.lt_of_succ_lt hn))

theorem amAt_reset (c : Dev nD) (t : Fin cfg0.N) (h : t.val % 14 = 0) : amAt m c t.val t.isLt = amStep m c t k0_pay20 := by
  obtain ⟨n, hn⟩ := t
  cases n with
  | zero => rfl
  | succ n => simp only [amAt, if_pos h]
theorem amAt_step (c : Dev nD) (t : Fin cfg0.N) (h : t.val % 14 ≠ 0) :
    amAt m c t.val t.isLt = amStep m c t (amAt m c (t.val - 1) (Nat.lt_of_le_of_lt (Nat.sub_le _ _) t.isLt)) := by
  obtain ⟨n, hn⟩ := t
  cases n with
  | zero => exact absurd rfl h
  | succ n =>
    show amStep m c ⟨n + 1, hn⟩ (if (n + 1) % 14 = 0 then k0_pay20 else amAt m c n (Nat.lt_of_succ_lt hn)) = amStep m c ⟨n + 1, hn⟩ (amAt m c n (Nat.lt_of_succ_lt hn))
    rw [if_neg h]

/-- The `k`-th point of the row block of point `t`. -/
def runPt (t : Fin cfg0.N) (k : Fin 14) : Fin cfg0.N :=
  ⟨14 * (t.val / 14) + k.val, by have h := t.isLt; have hN : cfg0.N = 168 := N_0; omega⟩

/-- The whole row block of `h`, column by column from the tile of the point that computes it. -/
def hv (c : Dev nD) (t : Fin cfg0.N) : Vec F S512x7168 .f32 := fun y =>
  if (y 1).val % 512 < 256 then
    t0At m c (runPt t ⟨(y 1).val / 512, by have h : (y 1).val < 7168 := (y 1).isLt; omega⟩) (ix2 (y 0) ⟨(y 1).val % 256, by omega⟩)
  else
    t1At m c (runPt t ⟨(y 1).val / 512, by have h : (y 1).val < 7168 := (y 1).isLt; omega⟩) (ix2 (y 0) ⟨(y 1).val % 256, by omega⟩)

/-- The row block is right on the columns computed up to point `t`. -/
def HOk (c : Dev nD) (t : Fin cfg0.N) (d : Vec F S512x7168 .f32) : Prop :=
  ∀ y : S512x7168.Idx, (y 1).val < 512 * (t.val % 14 + 1) → d y = hv m c t y

/-- A point's two stores, at an index. -/
theorem hOf_apply (xl : Vec F S512x128 .f32) (xc : Vec F S512x4096 .fp8e4m3) (x1 x2 : Vec F S4096x512 .fp8e4m3) (x3 x4 : Vec F S1x512 .f32)
    (t : Fin cfg0.N) (d : Vec F S512x7168 .f32) (y : S512x7168.Idx) :
    hOf xl xc x1 x2 x3 x4 (grid0.coords t) d y =
      if (y 1).val / 512 = t.val % 14 then
        (if (y 1).val % 512 < 256 then tile0 xl xc x1 x2 x3 x4 (ix2 (y 0) ⟨(y 1).val % 256, by omega⟩)
        else tile1 xl xc x1 x2 x3 x4 (ix2 (y 0) ⟨(y 1).val % 256, by omega⟩))
      else d y := by
  have e1 : (grid0.coords t 1).val = t.val / 1 % 14 := Pipeline.Grid.coords_val t 1 (by decide) rfl
  rw [Nat.div_one] at e1
  have o0 : k0_off1 (grid0.coords t) 0#32 = ![0, 512 * (t.val % 14)] := by
    have := k0_off1_eq (grid0.coords t) 0; rw [e1] at this; exact this
  have o1 : k0_off1 (grid0.coords t) 256#32 = ![0, 512 * (t.val % 14) + 256] := by
    have := k0_off1_eq (grid0.coords t) 1; rw [e1] at this; exact this
  have hy0 : (y 0).val < 512 := (y 0).isLt
  have hy1 : (y 1).val < 7168 := (y 1).isLt
  unfold hOf VecWindow.put
  rw [o0, o1]
  by_cases hq : (y 1).val / 512 = t.val % 14
  · rw [if_pos hq]
    by_cases hr : (y 1).val % 512 < 256
    · rw [if_pos hr, dif_neg, dif_pos]
      · congr 1; funext a
        match a with
        | ⟨0, _⟩ => exact Fin.ext (by show (y 0).val - 0 = (y 0).val; omega)
        | ⟨1, _⟩ => exact Fin.ext (by show (y 1).val - 512 * (t.val % 14) = (y 1).val % 256; omega)
      · intro a
        match a with
        | ⟨0, _⟩ => exact ⟨Nat.zero_le _, by show (y 0).val < 0 + 512; omega⟩
        | ⟨1, _⟩ => exact ⟨by show 512 * (t.val % 14) ≤ (y 1).val; omega, by show (y 1).val < 512 * (t.val % 14) + 256; omega⟩
      · intro h
        have := (h 1).1
        have h2 : 512 * (t.val % 14) + 256 ≤ (y 1).val := this
        omega
    · rw [if_neg hr, dif_pos]
      · congr 1; funext a
        match a with
        | ⟨0, _⟩ => exact Fin.ext (by show (y 0).val - 0 = (y 0).val; omega)
        | ⟨1, _⟩ => exact Fin.ext (by show (y 1).val - (512 * (t.val % 14) + 256) = (y 1).val % 256; omega)
      · intro a
        match a with
        | ⟨0, _⟩ => exact ⟨Nat.zero_le _, by show (y 0).val < 0 + 512; omega⟩
        | ⟨1, _⟩ => exact ⟨by show 512 * (t.val % 14) + 256 ≤ (y 1).val; omega, by show (y 1).val < 512 * (t.val % 14) + 256 + 256; omega⟩
  · rw [if_neg hq, dif_neg, dif_neg]
    · intro h
      have h1 : 512 * (t.val % 14) ≤ (y 1).val := (h 1).1
      have h2 : (y 1).val < 512 * (t.val % 14) + 256 := (h 1).2
      omega
    · intro h
      have h1 : 512 * (t.val % 14) + 256 ≤ (y 1).val := (h 1).1
      have h2 : (y 1).val < 512 * (t.val % 14) + 256 + 256 := (h 1).2
      omega

theorem runPt_self (t : Fin cfg0.N) (k : Fin 14) (h : k.val = t.val % 14) : runPt t k = t :=
  Fin.ext (by show 14 * (t.val / 14) + k.val = t.val; omega)

/-- The columns stored at a point are right, -/
theorem hOf_self (c : Dev nD) (t : Fin cfg0.N) (d : Vec F S512x7168 .f32) (y : S512x7168.Idx) (hq : (y 1).val / 512 = t.val % 14) :
    hOf (xlOf (iblk m c 0 t)) (xcOf (iblk m c 0 t)) (iblk m c 1 t) (iblk m c 2 t) (iblk m c 3 t) (iblk m c 4 t) (grid0.coords t) d y = hv m c t y := by
  rw [hOf_apply, if_pos hq]; unfold hv t0At t1At; rw [runPt_self t _ hq]

/-- so the first point of a row block establishes them whatever the buffer held, -/
theorem HOk_reset (c : Dev nD) (t : Fin cfg0.N) (h : t.val % 14 = 0) (d : Vec F S512x7168 .f32) :
    HOk m c t (hOf (xlOf (iblk m c 0 t)) (xcOf (iblk m c 0 t)) (iblk m c 1 t) (iblk m c 2 t) (iblk m c 3 t) (iblk m c 4 t) (grid0.coords t) d) :=
  fun y hy => hOf_self m c t d y (by omega)

/-- and every later point of it keeps the ones before. -/
theorem HOk_step (c : Dev nD) (t : Fin cfg0.N) (h : t.val % 14 ≠ 0) (d : Vec F S512x7168 .f32)
    (hd : HOk m c ⟨t.val - 1, Nat.lt_of_le_of_lt (Nat.sub_le _ _) t.isLt⟩ d) :
    HOk m c t (hOf (xlOf (iblk m c 0 t)) (xcOf (iblk m c 0 t)) (iblk m c 1 t) (iblk m c 2 t) (iblk m c 3 t) (iblk m c 4 t) (grid0.coords t) d) :=
  fun y hy => by
    by_cases hq : (y 1).val / 512 = t.val % 14
    · exact hOf_self m c t d y hq
    · rw [hOf_apply, if_neg hq, hd y (by show (y 1).val < 512 * ((t.val - 1) % 14 + 1); omega)]
      unfold hv
      have e : ∀ k, runPt ⟨t.val - 1, Nat.lt_of_le_of_lt (Nat.sub_le _ _) t.isLt⟩ k = runPt t k := fun k =>
        Fin.ext (by show 14 * ((t.val - 1) / 14) + k.val = 14 * (t.val / 14) + k.val; omega)
      rw [e]

theorem HOk_full (c : Dev nD) (t : Fin cfg0.N) (h : t.val % 14 = 13) (d : Vec F S512x7168 .f32) (hd : HOk m c t d) : d = hv m c t :=
  funext fun y => hd y (by have h1 : (y 1).val < 7168 := (y 1).isLt; omega)

/-! ## The idle points of the outputs -/

theorem liveAt5_of (t : Fin cfg0.N) (h : t.val % 14 = 13) : cfg0.idle 5 (grid0.coords t) = false := by
  show (!(k0_cond2 (grid0.coords t) == 1#1)) = false
  rw [show k0_cond2 (grid0.coords t) = 1#1 from (hcond0_1 t).mpr h]; rfl
theorem liveAt6_of (t : Fin cfg0.N) (h : t.val % 14 = 13) : cfg0.idle 6 (grid0.coords t) = false := by
  show (!(k0_cond2 (grid0.coords t) == 1#1)) = false
  rw [show k0_cond2 (grid0.coords t) = 1#1 from (hcond0_1 t).mpr h]; rfl
theorem idleAt5_of (t : Fin cfg0.N) (h : t.val % 14 ≠ 13) : cfg0.idle 5 (grid0.coords t) = true := by
  show (!(k0_cond2 (grid0.coords t) == 1#1)) = true
  rw [beq_eq_false_iff_ne.mpr (show k0_cond2 (grid0.coords t) ≠ 1#1 from fun e => h ((hcond0_1 t).mp e))]; rfl
theorem idleAt6_of (t : Fin cfg0.N) (h : t.val % 14 ≠ 13) : cfg0.idle 6 (grid0.coords t) = true := by
  show (!(k0_cond2 (grid0.coords t) == 1#1)) = true
  rw [beq_eq_false_iff_ne.mpr (show k0_cond2 (grid0.coords t) ≠ 1#1 from fun e => h ((hcond0_1 t).mp e))]; rfl
theorem liveAt7_of (t : Fin cfg0.N) (h : t.val % 14 = 0) : cfg0.idle 7 (grid0.coords t) = false := by
  show (!(k0_cond1 (grid0.coords t) == 1#1)) = false
  rw [show k0_cond1 (grid0.coords t) = 1#1 from (hcond0_0 t).mpr h]; rfl
theorem liveAt8_of (t : Fin cfg0.N) (h : t.val % 14 = 0) : cfg0.idle 8 (grid0.coords t) = false := by
  show (!(k0_cond1 (grid0.coords t) == 1#1)) = false
  rw [show k0_cond1 (grid0.coords t) = 1#1 from (hcond0_0 t).mpr h]; rfl
theorem idleAt7_of (t : Fin cfg0.N) (h : t.val % 14 ≠ 0) : cfg0.idle 7 (grid0.coords t) = true := by
  show (!(k0_cond1 (grid0.coords t) == 1#1)) = true
  rw [beq_eq_false_iff_ne.mpr (show k0_cond1 (grid0.coords t) ≠ 1#1 from fun e => h ((hcond0_0 t).mp e))]; rfl
theorem idleAt8_of (t : Fin cfg0.N) (h : t.val % 14 ≠ 0) : cfg0.idle 8 (grid0.coords t) = true := by
  show (!(k0_cond1 (grid0.coords t) == 1#1)) = true
  rw [beq_eq_false_iff_ne.mpr (show k0_cond1 (grid0.coords t) ≠ 1#1 from fun e => h ((hcond0_0 t).mp e))]; rfl

/-! ## The proof data -/

/-- The invariant: at first nothing is known of the scratch; after a point the row block is right on the columns computed, the running maximum and the lane scales are the point's. -/
def PhiS (c : Dev nD) : (n : ℕ) → n ≤ cfg0.N → sProp 𝕄
  | 0, _ => Pipeline.ΦA spec0 c
  | n + 1, hn => iprop(iprop((∃ d, ⌜HOk m c ⟨n, hn⟩ d⌝ ∗ owns (c : Thread nD τ) scM0_0 fullShare d) ∗ owns (c : Thread nD τ) scM0_1 fullShare (amAt m c n hn) ∗ owns (c : Thread nD τ) scM0_2 fullShare (xlOf (iblk m c 0 ⟨n, hn⟩))) ∗ (∃ r, prngReg c r))

theorem PhiS_succ (c : Dev nD) (n : ℕ) (hn : n < cfg0.N) :
    PhiS m c (n + 1) hn = iprop(iprop((∃ d, ⌜HOk m c ⟨n, hn⟩ d⌝ ∗ owns (c : Thread nD τ) scM0_0 fullShare d) ∗ owns (c : Thread nD τ) scM0_1 fullShare (amAt m c n hn) ∗ owns (c : Thread nD τ) scM0_2 fullShare (xlOf (iblk m c 0 ⟨n, hn⟩))) ∗ (∃ r, prngReg c r)) := rfl

theorem PhiS_pos (c : Dev nD) (n : ℕ) (h : n ≤ cfg0.N) (hz : n ≠ 0) :
    PhiS m c n h = iprop(iprop((∃ d, ⌜HOk m c ⟨n - 1, by omega⟩ d⌝ ∗ owns (c : Thread nD τ) scM0_0 fullShare d) ∗ owns (c : Thread nD τ) scM0_1 fullShare (amAt m c (n - 1) (by omega)) ∗ owns (c : Thread nD τ) scM0_2 fullShare (xlOf (iblk m c 0 ⟨n - 1, by omega⟩))) ∗ (∃ r, prngReg c r)) := by
  cases n with
  | zero => exact absurd rfl hz
  | succ n => rfl

/-- The invariant gives back what the launch handed in. -/
theorem PhiS_out (c : Dev nD) (n : ℕ) (h : n ≤ cfg0.N) : PhiS m c n h ⊢ Pipeline.ΦA spec0 c := by
  by_cases hz : n = 0
  · subst hz; exact .rfl
  · rw [PhiS_pos m c n h hz, PhiA0_eq]
    iintro ⟨⟨⟨%d, -, HS0⟩, HS1, HS2⟩, Hg⟩
    isplitl [HS0 HS1 HS2]
    · isplitl [HS0]
      · iexists _; iexact HS0
      isplitl [HS1]
      · iexists _; iexact HS1
      iexists _; iexact HS2
    iexact Hg

/-- The pipeline's proof data: what the body leaves in each window's buffer at each point. -/
def dats : (p : Fin 1) → (c : Dev nD) → Dat τ (Elt F) Unit ℕ (UR sig nD τ) ℕ (cfgs p) c := fun _ c => {
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hsOf (amAt m c t.val t.isLt)
    | ⟨6, _⟩ => hcOf (amAt m c t.val t.isLt) (hv m c t)
    | ⟨7, _⟩ => xcOf (iblk m c 0 t)
    | ⟨8, _⟩ => xsOf (iblk m c 0 t)
  Φ t := PhiS m c t.val (Nat.le_of_lt_succ t.isLt)
  q w := Pipeline.shareOf spec0 w
  owed _ := 0 }

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hsOf (amAt m c t.val t.isLt) := by dsimp only [dats]
theorem after0_6 (c : Dev nD) (t : Fin cfg0.N) : (dats m 0 c).after 6 t = hcOf (amAt m c t.val t.isLt) (hv m c t) := by dsimp only [dats]
theorem after0_7 (c : Dev nD) (t : Fin cfg0.N) : (dats m 0 c).after 7 t = xcOf (iblk m c 0 t) := by dsimp only [dats]
theorem after0_8 (c : Dev nD) (t : Fin cfg0.N) : (dats m 0 c).after 8 t = xsOf (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The activation block of a point that does not fetch it is the one of the point before. -/
theorem iblk0_prev (c : Dev nD) (t : Fin cfg0.N) (h : t.val % 14 ≠ 0) :
    iblk m c 0 t = iblk m c 0 ⟨t.val - 1, Nat.lt_of_le_of_lt (Nat.sub_le _ _) t.isLt⟩ := by
  have hf : (cfg0.win 0).fetch t = false := Bool.eq_false_iff.mpr fun e => h ((fetch0_0 t).mp e)
  have hi := (Pipeline.Window.index_eq_of_fetch (cfg0.win 0) rfl t hf).2
  have e : ∀ (t : Fin cfg0.N) d, (dats m 0 c).fetched 0 t d = iblk m c 0 t := fun t d => by
    unfold Dat.fetched Dat.blockOf iblk; rw [A_eq]; try rfl
  have d0 : ((cfg0.win 0).block.Idx → Elt F (cfg0.win 0).elt) := iblk m c 0 t
  exact (e t d0).symm.trans ((Dat.fetched_congr (dats m 0 c) 0 hi rfl d0).trans (e _ d0))

/-- Output window 7 at a point that is not the first of its row block still holds what the first point left. -/
theorem before0_7 (c : Dev nD) (n : ℕ) (hn : n < cfg0.N) (h0 : n % 14 ≠ 0) (d) : (dats m 0 c).before 7 ⟨n, hn⟩ d = xcOf (iblk m c 0 ⟨n, hn⟩) := by
  induction n with
  | zero => exact absurd rfl h0
  | succ n ih =>
    have hN : cfg0.N = 168 := N_0
    rw [iblk0_prev m c ⟨n + 1, hn⟩ h0]
    rw [Dat.before_of_pos _ 7 ⟨n + 1, hn⟩ (Nat.succ_ne_zero n) (Window.fetch_out _ rfl _)]
    rw [if_neg (fun h => by have := (flush0_7 ⟨n, Nat.lt_of_succ_lt hn⟩).mp h; simp only at this; omega)]
    unfold Dat.left
    by_cases hz : n % 14 = 0
    · have e : cfg0.idle 7 (cfg0.grid.coords ⟨(⟨n + 1, hn⟩ : Fin cfg0.N).val - 1, Nat.lt_of_succ_lt hn⟩) = false := liveAt7_of ⟨n, Nat.lt_of_succ_lt hn⟩ hz
      rw [e]
      exact (show (dats m 0 c).kept 7 ⟨n, Nat.lt_of_succ_lt hn⟩ d = (dats m 0 c).after 7 ⟨n, Nat.lt_of_succ_lt hn⟩ from rfl).trans (after0_7 m c ⟨n, Nat.lt_of_succ_lt hn⟩)
    · have e : cfg0.idle 7 (cfg0.grid.coords ⟨(⟨n + 1, hn⟩ : Fin cfg0.N).val - 1, Nat.lt_of_succ_lt hn⟩) = true := idleAt7_of ⟨n, Nat.lt_of_succ_lt hn⟩ hz
      rw [e]
      exact ih (Nat.lt_of_succ_lt hn) hz
/-- Output window 8 at a point that is not the first of its row block still holds what the first point left. -/
theorem before0_8 (c : Dev nD) (n : ℕ) (hn : n < cfg0.N) (h0 : n % 14 ≠ 0) (d) : (dats m 0 c).before 8 ⟨n, hn⟩ d = xsOf (iblk m c 0 ⟨n, hn⟩) := by
  induction n with
  | zero => exact absurd rfl h0
  | succ n ih =>
    have hN : cfg0.N = 168 := N_0
    rw [iblk0_prev m c ⟨n + 1, hn⟩ h0]
    rw [Dat.before_of_pos _ 8 ⟨n + 1, hn⟩ (Nat.succ_ne_zero n) (Window.fetch_out _ rfl _)]
    rw [if_neg (fun h => by have := (flush0_8 ⟨n, Nat.lt_of_succ_lt hn⟩).mp h; simp only at this; omega)]
    unfold Dat.left
    by_cases hz : n % 14 = 0
    · have e : cfg0.idle 8 (cfg0.grid.coords ⟨(⟨n + 1, hn⟩ : Fin cfg0.N).val - 1, Nat.lt_of_succ_lt hn⟩) = false := liveAt8_of ⟨n, Nat.lt_of_succ_lt hn⟩ hz
      rw [e]
      exact (show (dats m 0 c).kept 8 ⟨n, Nat.lt_of_succ_lt hn⟩ d = (dats m 0 c).after 8 ⟨n, Nat.lt_of_succ_lt hn⟩ from rfl).trans (after0_8 m c ⟨n, Nat.lt_of_succ_lt hn⟩)
    · have e : cfg0.idle 8 (cfg0.grid.coords ⟨(⟨n + 1, hn⟩ : Fin cfg0.N).val - 1, Nat.lt_of_succ_lt hn⟩) = true := idleAt8_of ⟨n, Nat.lt_of_succ_lt hn⟩ hz
      rw [e]
      exact ih (Nat.lt_of_succ_lt hn) hz

end Cert.Kernel.Body

end
-- ==== Proof.K.Body.lean ====
module

public import proofs.«01_k».proof.Proof.K.Dats

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 168 := lt_of_lt_of_eq t.isLt (show cfg0.N = 168 from N_0)
  by_cases h0 : t.val % 14 = 0
  · have h1 : t.val % 14 ≠ 13 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [Dat.leavesExact_idle (dats m 0 c) 5 t (idleAt5_of t h1) (Bool.eq_false_iff.mpr fun e => h1 ((flush0_5 t).mp e))]
    rw [Dat.leavesExact_idle (dats m 0 c) 6 t (idleAt6_of t h1) (Bool.eq_false_iff.mpr fun e => h1 ((flush0_6 t).mp e))]
    rw [show (dats m 0 c).leavesExact 7 t = owns (c : Thread nD τ) (ms0_7 t) fullShare ((dats m 0 c).after 7 t) from by
      unfold Dat.leavesExact; rw [liveAt7_of t h0], after0_7]
    rw [show (dats m 0 c).leavesExact 8 t = owns (c : Thread nD τ) (ms0_8 t) fullShare ((dats m 0 c).after 8 t) from by
      unfold Dat.leavesExact; rw [liveAt8_of t h0], after0_8]
    have hPhi : (dats m 0 c).Φ t.castSucc ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
      rw [PhiS_castSucc m c t, ← PhiA0_eq]; exact PhiS_out m c _ _
    refine Idealize.SL.BI.BIBase.Entails.trans (Idealize.SL.BI.Laws.sep_mono_left hPhi) ?_
    rw [amAt_reset m c t h0]
    unfold amStep
    iintro ⟨⟨⟨⟨%ds0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _ ds0 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · iexists _; isplitr
          swap; · iexact HS0
          ipureintro; exact HOk_reset m c t h0 ds0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iexact H8
  · have hz : t.val ≠ 0 := fun e => h0 (by rw [e])
    by_cases h1 : t.val % 14 = 13
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt5_of t h1], after0_5]
      rw [show (dats m 0 c).leavesExact 6 t = owns (c : Thread nD τ) (ms0_6 t) fullShare ((dats m 0 c).after 6 t) from by
        unfold Dat.leavesExact; rw [liveAt6_of t h1], after0_6]
      rw [show (dats m 0 c).leavesExact 7 t = owns (c : Thread nD τ) (ms0_7 t) fullShare ((dats m 0 c).after 7 t) from by
        unfold Dat.leavesExact; rw [idleAt7_of t h0, (flush0_7 t).mpr h1], after0_7]
      rw [show (dats m 0 c).leavesExact 8 t = owns (c : Thread nD τ) (ms0_8 t) fullShare ((dats m 0 c).after 8 t) from by
        unfold Dat.leavesExact; rw [idleAt8_of t h0, (flush0_8 t).mpr h1], after0_8]
      simp only [before0_7 m c t.val t.isLt h0, before0_8 m c t.val t.isLt h0]
      rw [PhiS_castSucc m c t, PhiS_pos m c _ _ hz]
      rw [amAt_step m c t h0]
      unfold amStep
      iintro ⟨⟨⟨⟨%ds0, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [← iblk0_prev m c t h0]
      rw [← HOk_full m c t h1 _ (HOk_step m c t h0 ds0 hd)]
      iapply (runC c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xcOf (iblk m c 0 t)) (xsOf (iblk m c 0 t)) ds0 (amAt m c (t.val - 1) (Nat.lt_of_le_of_lt (Nat.sub_le _ _) t.isLt)) (xlOf (iblk m c 0 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · iexists _; isplitr
            swap; · iexact HS0
            ipureintro; exact HOk_step m c t h0 ds0 hd
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt5_of t h1) (Bool.eq_false_iff.mpr fun e => h1 ((flush0_5 t).mp e))]
      rw [Dat.leavesExact_idle (dats m 0 c) 6 t (idleAt6_of t h1) (Bool.eq_false_iff.mpr fun e => h1 ((flush0_6 t).mp e))]
      rw [Dat.leavesExact_idle (dats m 0 c) 7 t (idleAt7_of t h0) (Bool.eq_false_iff.mpr fun e => h1 ((flush0_7 t).mp e))]
      rw [Dat.leavesExact_idle (dats m 0 c) 8 t (idleAt8_of t h0) (Bool.eq_false_iff.mpr fun e => h1 ((flush0_8 t).mp e))]
      rw [PhiS_castSucc m c t, PhiS_pos m c _ _ hz]
      rw [amAt_step m c t h0]
      unfold amStep
      iintro ⟨⟨⟨⟨%ds0, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [← iblk0_prev m c t h0]
      have e7 := before0_7 m c t.val t.isLt h0 d7
      have e8 := before0_8 m c t.val t.isLt h0 d8
      iapply (runB c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _ _ ds0 (amAt m c (t.val - 1) (Nat.lt_of_le_of_lt (Nat.sub_le _ _) t.isLt)) (xlOf (iblk m c 0 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      rw [e7]
      iintro ⟨H0, H1, H2, H3, H4, H5, H6, H7, H8, HS0, HS1, HS2⟩
      isplitl [HS0 HS1 HS2 Hg]
      · isplitl [HS0 HS1 HS2]
        · isplitl [HS0]
          · iexists _; isplitr
            swap; · iexact HS0
            ipureintro; exact HOk_step m c t h0 ds0 hd
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists d7; rw [e7]; iexact H7
      iexists _; iexact H8

/-- The body table's row at a point's slots is the body at the point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl]
  exact .rfl

/-- and the invariant after the last gives it back. -/
theorem hout (c : Dev nD) : (dats m 0 c).Φ (Fin.last cfg0.N) ⊢ Pipeline.ΦA spec0 c :=
  by
    rw [show (dats m 0 c).Φ (Fin.last cfg0.N) = PhiS m c (Fin.last cfg0.N).val (Nat.le_of_lt_succ (Fin.last cfg0.N).isLt) from rfl]
    exact PhiS_out m c _ _

/-! ## The run and the frame -/

set_option backward.isDefEq.respectTransparency.types false in
set_option maxHeartbeats 800000 in
/-- The launch, with every window's array at its final value and every semaphore counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main_quiescent m ρ))

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Body

end
-- ==== Proof.Val.Quant.lean ====
module

public import proofs.«01_k».proof.Proof.KI.Body
public import Idealize.ShloMosaic.Lib.Pipeline.ValueKit

@[expose] public section

set_option maxRecDepth 16384
noncomputable section
namespace Cert.Val
open Idealize.ShloMosaic

/-! ## The exponent field, bit by bit -/

/-- One comparison of the ladder. -/
def stepE (v : EReal) (f b : BitVec 32) : BitVec 32 :=
  Scalar.select (Ideal.cmp .oge v (Ideal.ofBits .f32 (IntOp.shli .vector (IntOp.addi f b) 23#32))) (IntOp.addi f b) f
/-- The first five comparisons. -/
def ladder5 (v : EReal) : BitVec 32 := stepE v (stepE v (stepE v (stepE v (stepE v 0#32 128#32) 64#32) 32#32) 16#32) 8#32
/-- The whole field. -/
def fieldOf (v : EReal) : BitVec 32 := stepE v (stepE v (stepE v (ladder5 v) 4#32) 2#32) 1#32

/-- The power of two of a field. -/
def pw (n : ℕ) : EReal := Ideal.ofBits .f32 (BitVec.ofNat 32 n <<< 23)

theorem fields : ∀ n : Fin 256, (((BitVec.ofNat 32 n.val <<< 23).extractLsb' 31 1 == 1#1) = false)
    ∧ ((BitVec.ofNat 32 n.val <<< 23).extractLsb' 23 8).toNat = n.val ∧ ((BitVec.ofNat 32 n.val <<< 23).extractLsb' 0 23).toNat = 0 := by
  decide +kernel

theorem pw_zero : pw 0 = 0 := by simp [pw, Ideal.ofBits, Ideal.ieee]
theorem pw_top : pw 255 = ⊤ := by simp [pw, Ideal.ofBits, Ideal.ieee]
theorem pw_mid (n : ℕ) (h1 : 1 ≤ n) (h2 : n ≤ 254) : pw n = (((2 : ℝ) ^ ((n : ℤ) - 127) : ℝ) : EReal) := by
  obtain ⟨e1, e2, e3⟩ := fields ⟨n, by omega⟩
  simp only at e1 e2 e3
  have key : ∀ (neg : Bool) (ex fr : ℕ), neg = false → ex = n → fr = 0 →
      (if ex = 2 ^ 8 - 1 then (if fr = 0 then (if neg then (⊥ : EReal) else ⊤) else ⊥)
      else if ex = 0 then (((if neg then (-1 : ℝ) else 1) * fr * (2 : ℝ) ^ (1 - ((2 : ℤ) ^ (8 - 1) - 1) - (23 : ℕ) : ℤ) : ℝ) : EReal)
      else (((if neg then (-1 : ℝ) else 1) * ((2 ^ 23 + fr : ℕ) : ℝ) * (2 : ℝ) ^ ((ex : ℤ) - ((2 : ℤ) ^ (8 - 1) - 1) - (23 : ℕ)) : ℝ) : EReal))
      = (((2 : ℝ) ^ ((n : ℤ) - 127) : ℝ) : EReal) := by
    intro neg ex fr k1 k2 k3; subst k1 k2 k3
    rw [if_neg (by norm_num; omega), if_neg (by omega)]
    refine congrArg _ ?_
    have hz : (2 : ℝ) ≠ 0 := by norm_num
    rw [show ((ex : ℤ) - 127) = 23 + ((ex : ℤ) - (2 ^ (8 - 1) - 1) - (23 : ℕ)) by norm_num, zpow_add₀ hz]
    push_cast
    norm_num
  exact key _ _ _ e1 e2 e3

/-- A step at a field that is a number of the bits above. -/
theorem stepE_ofNat (v : EReal) (n b : ℕ) (h : n + b < 256) :
    stepE v (BitVec.ofNat 32 n) (BitVec.ofNat 32 b) = BitVec.ofNat 32 (if pw (n + b) ≤ v then n + b else n) := by
  have e : IntOp.addi (BitVec.ofNat 32 n) (BitVec.ofNat 32 b) = BitVec.ofNat 32 (n + b) := by
    unfold IntOp.addi; exact (BitVec.ofNat_add n b).symm
  unfold stepE
  rw [e]
  have e2 : IntOp.shli .vector (BitVec.ofNat 32 (n + b)) 23#32 = BitVec.ofNat 32 (n + b) <<< 23 := by
    rfl
  rw [e2]
  unfold Scalar.select Ideal.cmp pw
  by_cases hc : Ideal.ofBits .f32 (BitVec.ofNat 32 (n + b) <<< 23) ≤ v
  · simp [hc]
  · simp [hc]

/-- What a prefix of the ladder knows. -/
def Inv (v : EReal) (w n : ℕ) : Prop := n + w ≤ 256 ∧ (n = 0 ∨ pw n ≤ v) ∧ (n + w = 256 ∨ v < pw (n + w))

theorem Inv_step (v : EReal) (b n : ℕ) (hb : 1 ≤ b) (h : Inv v (2 * b) n) :
    ∃ n', stepE v (BitVec.ofNat 32 n) (BitVec.ofNat 32 b) = BitVec.ofNat 32 n' ∧ Inv v b n' := by
  obtain ⟨h1, h2, h3⟩ := h
  refine ⟨_, stepE_ofNat v n b (by omega), ?_⟩
  by_cases hc : pw (n + b) ≤ v
  · rw [if_pos hc]
    refine ⟨by omega, .inr hc, ?_⟩
    rw [show n + b + b = n + 2 * b by ring]; exact h3
  · rw [if_neg hc]
    exact ⟨by omega, h2, .inr (not_le.mp hc)⟩

/-- The field: the largest power of two not above the value. -/
theorem fieldOf_spec (v : EReal) : ∃ n, fieldOf v = BitVec.ofNat 32 n ∧ Inv v 1 n := by
  unfold fieldOf ladder5
  obtain ⟨n1, e1, i1⟩ := Inv_step v 128 0 (by norm_num) ⟨by norm_num, .inl rfl, .inl (by norm_num)⟩
  rw [show stepE v 0#32 128#32 = _ from e1]
  obtain ⟨n2, e2, i2⟩ := Inv_step v 64 n1 (by norm_num) i1
  rw [show stepE v (BitVec.ofNat 32 n1) 64#32 = _ from e2]
  obtain ⟨n3, e3, i3⟩ := Inv_step v 32 n2 (by norm_num) i2
  rw [show stepE v (BitVec.ofNat 32 n2) 32#32 = _ from e3]
  obtain ⟨n4, e4, i4⟩ := Inv_step v 16 n3 (by norm_num) i3
  rw [show stepE v (BitVec.ofNat 32 n3) 16#32 = _ from e4]
  obtain ⟨n5, e5, i5⟩ := Inv_step v 8 n4 (by norm_num) i4
  rw [show stepE v (BitVec.ofNat 32 n4) 8#32 = _ from e5]
  obtain ⟨n6, e6, i6⟩ := Inv_step v 4 n5 (by norm_num) i5
  rw [show stepE v (BitVec.ofNat 32 n5) 4#32 = _ from e6]
  obtain ⟨n7, e7, i7⟩ := Inv_step v 2 n6 (by norm_num) i6
  rw [show stepE v (BitVec.ofNat 32 n6) 2#32 = _ from e7]
  obtain ⟨n8, e8, i8⟩ := Inv_step v 1 n7 (by norm_num) i7
  exact ⟨n8, e8, i8⟩

/-! ## The kernel's exponent, scale and inverse scale -/

/-- The exponent of a row whose amax is `a` and exponent field `f`. -/
def kExp (a : EReal) (f : BitVec 32) : BitVec 32 :=
  Scalar.select (Ideal.cmp .oeq a (Ideal.ofBits .f32 0x00000000#32)) 0#32
    (Scalar.select (IntOp.ori (IntOp.cmpi .eq f 0#32) (IntOp.cmpi .eq f 255#32)) 0#32 (IntOp.subi f 126#32))
/-- The bits of the power of two of an exponent. -/
def kBits (e : BitVec 32) : BitVec 32 :=
  IntOp.shli .vector (IntOp.minsi 255#32 (IntOp.maxsi 0#32 (IntOp.addi e 127#32))) 23#32
/-- 1/448 as the programs spell it. -/
def cst448 : EReal := Ideal.ofBits .f32 0x3B124925#32
/-- The exponent of a row whose amax is `a`. -/
def kE (a : EReal) : BitVec 32 := kExp a (fieldOf (a * cst448))
/-- Its scale, -/
def kScale (a : EReal) : EReal := Ideal.ofBits .f32 (kBits (kE a))
/-- and the inverse. -/
def kInv (a : EReal) : EReal := Ideal.ofBits .f32 (kBits (IntOp.subi 0#32 (kE a)))

/-! ## The reference's -/

/-- `ldexp(1, e)` as the reference spells it. -/
def rLdexp (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32) (Ideal.exp2 e))
/-- The exponent of `frexp m`, before the case of a zero row. -/
def rFrexp (v : EReal) : EReal :=
  Scalar.select (IntOp.ori (Ideal.cmp .olt v (Ideal.ofBits .f32 0x00800000#32)) (Ideal.cmp .oeq v (Ideal.ofBits .f32 0x7F800000#32)))
    (Ideal.ofBits .f32 0x00000000#32)
    (Ideal.liftRound Int.floor (Ideal.div (Ideal.log v) (Ideal.log (Ideal.ofBits .f32 0x40000000#32))) + Ideal.ofBits .f32 0x3F800000#32)
/-- The exponent of a row whose amax is `a`. -/
def rE (a : EReal) : EReal :=
  Scalar.select (Ideal.cmp .oeq a (Ideal.ofBits .f32 0x00000000#32)) (Ideal.ofBits .f32 0x00000000#32) (rFrexp (a * cst448))
def rScale (a : EReal) : EReal := rLdexp (rE a)
def rInv (a : EReal) : EReal := rLdexp (Ideal.ofBits .f32 0x00000000#32 - rE a)

theorem or_one1 : ∀ x : BitVec 1, 1#1 ||| x = 1#1 := by decide
theorem bits_zero : Ideal.ofBits .f32 0x00000000#32 = 0 := pw_zero
theorem bits_top : Ideal.ofBits .f32 0x7F800000#32 = ⊤ := pw_top
theorem bits_min : Ideal.ofBits .f32 0x00800000#32 = pw 1 := rfl
theorem bits_one : Ideal.ofBits .f32 0x3F800000#32 = 1 := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_127 : Ideal.ofBits .f32 0x42FE0000#32 = ((127 : ℝ) : EReal) := by simp [Ideal.ofBits, Ideal.ieee, -EReal.coe_mul]; norm_num
theorem bits_n126 : Ideal.ofBits .f32 0xC2FC0000#32 = ((-126 : ℝ) : EReal) := by simp [Ideal.ofBits, Ideal.ieee, -EReal.coe_mul]; norm_num

/-- `ldexp(1, k)` at an integer. -/
theorem rLdexp_int (k : ℤ) : rLdexp (((k : ℤ) : ℝ) : EReal) = if 127 < k then ⊤ else if k < -126 then 0 else (((2 : ℝ) ^ k : ℝ) : EReal) := by
  unfold rLdexp
  rw [bits_127, bits_n126, bits_top, bits_zero]
  unfold Scalar.select Ideal.cmp
  have h1 : (((127 : ℝ) : EReal) < ((k : ℝ) : EReal)) ↔ 127 < k := by
    rw [EReal.coe_lt_coe_iff]; exact_mod_cast Iff.rfl
  have h2 : (((k : ℝ) : EReal) < ((-126 : ℝ) : EReal)) ↔ k < -126 := by
    rw [EReal.coe_lt_coe_iff]; exact_mod_cast Iff.rfl
  have h3 : Ideal.exp2 ((k : ℝ) : EReal) = (((2 : ℝ) ^ k : ℝ) : EReal) := by
    show ((Real.rpow 2 (k : ℝ) : ℝ) : EReal) = _
    congr 1; exact Real.rpow_intCast 2 k
  simp only [h1, h2, h3]
  by_cases a : 127 < k <;> by_cases b : k < -126 <;> simp [a, b]

theorem kBits_scale : ∀ n : Fin 256, kBits (Scalar.select (IntOp.ori (IntOp.cmpi .eq (BitVec.ofNat 32 n.val) 0#32) (IntOp.cmpi .eq (BitVec.ofNat 32 n.val) 255#32)) 0#32 (IntOp.subi (BitVec.ofNat 32 n.val) 126#32))
    = BitVec.ofNat 32 (if n.val = 0 ∨ n.val = 255 then 127 else n.val + 1) <<< 23 := by decide +kernel
theorem kBits_inv : ∀ n : Fin 256, kBits (IntOp.subi 0#32 (Scalar.select (IntOp.ori (IntOp.cmpi .eq (BitVec.ofNat 32 n.val) 0#32) (IntOp.cmpi .eq (BitVec.ofNat 32 n.val) 255#32)) 0#32 (IntOp.subi (BitVec.ofNat 32 n.val) 126#32)))
    = BitVec.ofNat 32 (if n.val = 0 ∨ n.val = 255 then 127 else 253 - n.val) <<< 23 := by decide +kernel

theorem ldexp_zero : rLdexp 0 = pw 127 := by
  have := rLdexp_int 0
  rw [pw_mid 127 (by norm_num) (by norm_num)]
  simpa using this

/-- `frexp`'s exponent and the field's, on each side. -/
theorem frexp_spec (v : EReal) (n : ℕ) (hn : Inv v 1 n) :
    rLdexp (rFrexp v) = pw (if n = 0 ∨ n = 255 then 127 else n + 1)
    ∧ rLdexp (0 - rFrexp v) = pw (if n = 0 ∨ n = 255 then 127 else 253 - n) := by
  obtain ⟨h1, h2, h3⟩ := hn
  have z0 : (0 : EReal) - 0 = 0 := by simp
  by_cases a0 : n = 0
  · have hv : v < pw 1 := by
      rcases h3 with h | h
      · omega
      · subst a0; exact h
    have hf : rFrexp v = 0 := by
      unfold rFrexp; rw [bits_min, bits_zero]
      unfold Scalar.select Ideal.cmp
      simp [hv, IntOp.ori, or_one1]
    rw [hf, if_pos (.inl a0), if_pos (.inl a0), z0]; exact ⟨ldexp_zero, ldexp_zero⟩
  have h2 : pw n ≤ v := h2.resolve_left a0
  by_cases a1 : n = 255
  · subst a1
    have hv : v = ⊤ := by rw [pw_top] at h2; exact top_le_iff.mp h2
    have hf : rFrexp v = 0 := by
      unfold rFrexp; rw [bits_top, bits_zero, hv]
      unfold Scalar.select Ideal.cmp
      simp [IntOp.ori]
    rw [hf, if_pos (.inr rfl), if_pos (.inr rfl), z0]; exact ⟨ldexp_zero, ldexp_zero⟩
  rw [if_neg (by omega), if_neg (by omega)]
  have hlt : v < pw (n + 1) := by
    rcases h3 with h | h
    · omega
    · exact h
  have hn1 : 1 ≤ n := by omega
  have hn2 : n ≤ 254 := by omega
  rw [pw_mid n hn1 hn2] at h2
  -- the value is a real
  have hvt : v ≠ ⊤ := ne_top_of_lt hlt
  have hvb : v ≠ ⊥ := fun e => by rw [e] at h2; simp at h2
  lift v to ℝ using ⟨hvt, hvb⟩
  have h2 : (2 : ℝ) ^ ((n : ℤ) - 127) ≤ v := EReal.coe_le_coe_iff.mp h2
  have hpos : 0 < v := lt_of_lt_of_le (by positivity) h2
  have hmin : ¬ ((v : EReal) < pw 1) := by
    rw [pw_mid 1 (by norm_num) (by norm_num), EReal.coe_lt_coe_iff, not_lt]
    refine le_trans ?_ h2
    exact zpow_le_zpow_right₀ (by norm_num) (by omega)
  have hl2 : (0 : ℝ) < Real.log 2 := Real.log_pos (by norm_num)
  have hdiv : Ideal.div (Ideal.log (v : EReal)) (Ideal.log ((2 : ℝ) : EReal)) = ((Real.log v / Real.log 2 : ℝ) : EReal) := by
    have e1 : Ideal.log (v : EReal) = ((Real.log v : ℝ) : EReal) := by
      show (if v ≤ 0 then (⊥ : EReal) else ((Real.log v : ℝ) : EReal)) = _
      rw [if_neg hpos.not_ge]
    have e2 : Ideal.log ((2 : ℝ) : EReal) = ((Real.log 2 : ℝ) : EReal) := by
      show (if (2 : ℝ) ≤ 0 then (⊥ : EReal) else ((Real.log 2 : ℝ) : EReal)) = _
      rw [if_neg (by norm_num)]
    rw [e1, e2, Ideal.div_coe hl2.ne', ← EReal.coe_mul]; congr 1; ring
  have hf : rFrexp (v : EReal) = (((⌊Real.log v / Real.log 2⌋ + 1 : ℤ) : ℝ) : EReal) := by
    unfold rFrexp; rw [bits_min, bits_top, bits_zero, bits_two, hdiv, bits_one]
    unfold Scalar.select Ideal.cmp
    simp only [hmin, EReal.coe_ne_top, decide_false, IntOp.ori]
    show ((((⌊Real.log v / Real.log 2⌋ : ℤ) : ℝ) : EReal)) + 1 = _
    push_cast
    rfl
  have hlo : (n : ℤ) - 127 ≤ ⌊Real.log v / Real.log 2⌋ := by
    rw [Int.le_floor, le_div_iff₀ hl2]
    have := Real.log_le_log (by positivity) h2
    rwa [Real.log_zpow] at this
  rw [hf]
  have hneg : (0 : EReal) - (((⌊Real.log v / Real.log 2⌋ + 1 : ℤ) : ℝ) : EReal) = (((-(⌊Real.log v / Real.log 2⌋ + 1) : ℤ) : ℝ) : EReal) := by
    rw [show (0 : EReal) = ((0 : ℝ) : EReal) from rfl, ← EReal.coe_sub]; congr 1; push_cast; ring
  rw [hneg, rLdexp_int, rLdexp_int]
  by_cases a2 : n = 254
  · subst a2
    push_cast at hlo
    rw [if_pos (by omega), if_neg (by omega), if_pos (by omega)]
    exact ⟨pw_top.symm, pw_zero.symm⟩
  have hk : ⌊Real.log v / Real.log 2⌋ = (n : ℤ) - 127 := by
    refine le_antisymm ?_ hlo
    rw [← Int.lt_add_one_iff, Int.floor_lt, div_lt_iff₀ hl2]
    rw [pw_mid (n + 1) (by omega) (by omega), EReal.coe_lt_coe_iff] at hlt
    have := Real.log_lt_log hpos hlt
    rw [Real.log_zpow] at this
    refine lt_of_lt_of_eq this ?_
    push_cast; ring
  rw [hk]
  refine ⟨?_, ?_⟩
  · rw [if_neg (by omega), if_neg (by omega), pw_mid (n + 1) (by omega) (by omega)]
    congr 2; push_cast; ring
  · rw [if_neg (by omega)]
    by_cases a3 : n = 253
    · subst a3; rw [if_pos (by norm_num)]; exact pw_zero.symm
    · rw [if_neg (by omega), pw_mid (253 - n) (by omega) (by omega)]
      congr 2; omega

/-- The two programs' scales are equal, and so are their inverses, whatever the row's amax. -/
theorem scales_eq (a : EReal) : kScale a = rScale a ∧ kInv a = rInv a := by
  by_cases ha : a = 0
  · have e1 : kE a = 0#32 := by
      unfold kE kExp Scalar.select Ideal.cmp; rw [bits_zero]; simp [ha]
    have e2 : rE a = 0 := by
      unfold rE Scalar.select Ideal.cmp; rw [bits_zero]; simp [ha]
    unfold kScale kInv rScale rInv
    rw [e1, e2, bits_zero, show (0 : EReal) - 0 = 0 by simp, ldexp_zero]
    exact ⟨rfl, rfl⟩
  · obtain ⟨n, hf, hn⟩ := fieldOf_spec (a * cst448)
    have hn256 : n < 256 := by have := hn.1; omega
    have e1 : kE a = Scalar.select (IntOp.ori (IntOp.cmpi .eq (BitVec.ofNat 32 n) 0#32) (IntOp.cmpi .eq (BitVec.ofNat 32 n) 255#32)) 0#32 (IntOp.subi (BitVec.ofNat 32 n) 126#32) := by
      unfold kE kExp; rw [hf, bits_zero]
      rw [show Ideal.cmp .oeq a 0 = 0#1 by unfold Ideal.cmp; simp [ha]]
      rfl
    have e2 : rE a = rFrexp (a * cst448) := by
      unfold rE; rw [bits_zero]
      rw [show Ideal.cmp .oeq a 0 = 0#1 by unfold Ideal.cmp; simp [ha]]
      rfl
    obtain ⟨f1, f2⟩ := frexp_spec _ n hn
    unfold kScale kInv rScale rInv
    rw [e1, e2, bits_zero, kBits_scale ⟨n, hn256⟩, kBits_inv ⟨n, hn256⟩]
    exact ⟨f1.symm, f2.symm⟩

end Cert.Val

end
-- ==== Proof.Val.Spec.lean ====
module

public import proofs.«01_k».proof.Proof.Val.Quant

@[expose] public section

set_option maxRecDepth 16384

noncomputable section

namespace Cert.Val

open Idealize.ShloMosaic

/-- The largest magnitude of a row. -/
def amaxOf {n : ℕ} (f : Fin n → EReal) : EReal :=
  Finset.fold max (Ideal.ofBits .f32 0xFF800000#32) (fun k => FloatOps.absf (F := Ideal) (φ := .f32) (f k)) Finset.univ

/-- The code of an entry of a row whose amax is `a`. -/
def codeOf (a v : EReal) : EReal :=
  min (Ideal.ofBits .f32 0x43E00000#32) (max (Ideal.ofBits .f32 0xC3E00000#32) (v * kInv a))

section
variable (X : Fin 6144 → Fin 4096 → EReal) (W : Fin 4096 → Fin 14336 → EReal) (S : Fin 14336 → EReal)

/-- The scale of token `r`, -/
def xscale (r : Fin 6144) : EReal := kScale (amaxOf (X r))
/-- its codes, -/
def xcode (r : Fin 6144) (k : Fin 4096) : EReal := codeOf (amaxOf (X r)) (X r k)
/-- column `q` of the rescaled product, -/
def yv (r : Fin 6144) (q : Fin 14336) : EReal := (∑ k, xcode X r k * W k q) * xscale X r * S q
/-- the gated activation, -/
def hh (r : Fin 6144) (q : Fin 7168) : EReal :=
  yv X W S r ⟨q.val, by omega⟩ * Ideal.logistic (yv X W S r ⟨q.val, by omega⟩) * yv X W S r ⟨7168 + q.val, by omega⟩
/-- its scale -/
def hscale (r : Fin 6144) : EReal := kScale (amaxOf (hh X W S r))
/-- and its codes. -/
def hcode (r : Fin 6144) (q : Fin 7168) : EReal := codeOf (amaxOf (hh X W S r)) (hh X W S r q)
end

end Cert.Val
end
-- ==== Proof.Val.Kern.lean ====
module

public import proofs.«01_k».proof.Proof.Val.Spec

@[expose] public section

set_option maxRecDepth 16384

noncomputable section

namespace Cert.Val

open Cert.KernelIdeal Cert.KernelIdeal.Gen Cert.KernelIdeal.Body
open Idealize.ShloMosaic Idealize.ShloMosaic.TcCoe Idealize.ShloMosaic.Tactic

/-! ## The stored values of the kernel, entry by entry -/

theorem pay4_apply (x0 : Vec Ideal S512x4096 .bf16) (y : S512x1.Idx) :
    k0_pay4 x0 y = amaxOf (fun k : Fin 4096 => x0 (ix2 (y 0) k)) := by
  pointwise [k0_pay4, k0_pay3, amaxOf]

/-- One bit of the exponent field, over all rows. -/
def vstep (v : FVec Ideal S512x1 .f32) (f : IVec S512x1 32) (b : BitVec 32) : IVec S512x1 32 :=
  select (cmpf .oge v (bitcastToFloat .f32 (shli (addi f (broadcast S512x1 b)) (broadcast S512x1 23#32)))) (addi f (broadcast S512x1 b)) f
theorem vstep_apply (v : FVec Ideal S512x1 .f32) (f : IVec S512x1 32) (b : BitVec 32) (y : S512x1.Idx) :
    vstep v f b y = stepE (v y) (f y) b := id rfl
theorem vstep5 (v : FVec Ideal S512x1 .f32) (y : S512x1.Idx) :
    vstep v (vstep v (vstep v (vstep v (vstep v (broadcast S512x1 0#32) 128#32) 64#32) 32#32) 16#32) 8#32 y = ladder5 (v y) := by
  rw [vstep_apply, vstep_apply, vstep_apply, vstep_apply, vstep_apply]
  rfl
theorem pay6_eq (x0 : Vec Ideal S512x4096 .bf16) : k0_pay6 x0
    = vstep (k0_pay5 x0) (vstep (k0_pay5 x0) (vstep (k0_pay5 x0) (vstep (k0_pay5 x0) (vstep (k0_pay5 x0) (broadcast S512x1 0#32) 128#32) 64#32) 32#32) 16#32) 8#32 := by
  unfold k0_pay6
  generalize k0_pay5 x0 = v
  exact id rfl
theorem pay6_apply (x0 : Vec Ideal S512x4096 .bf16) (y : S512x1.Idx) : k0_pay6 x0 y = ladder5 (k0_pay5 x0 y) := by
  rw [pay6_eq, vstep5]
theorem pay7_gen (a v : FVec Ideal S512x1 .f32) (f : IVec S512x1 32) (y : S512x1.Idx) :
    k0_pay7 a v f 4#32 y = kExp (a y) (stepE (v y) (stepE (v y) (stepE (v y) (f y) 4#32) 2#32) 1#32) := by
  exact id rfl
theorem pay7_apply (x0 : Vec Ideal S512x4096 .bf16) (y : S512x1.Idx) :
    k0_pay7 (k0_pay4 x0) (k0_pay5 x0) (k0_pay6 x0) 4#32 y = kE (k0_pay4 x0 y) := by
  rw [pay7_gen, pay6_apply]
  rfl
theorem pay8_gen (a v : FVec Ideal S512x1 .f32) (f : IVec S512x1 32) (y : S512x1.Idx) :
    k0_pay8 a v f 4#32 y = Ideal.ofBits .f32 (kBits (k0_pay7 a v f 4#32 y)) := by
  unfold k0_pay8
  generalize k0_pay7 a v f 4#32 = e
  exact id rfl
theorem xsOf_apply' (x0 : Vec Ideal S512x4096 .bf16) (y : S512x1.Idx) : xsOf x0 y = kScale (k0_pay4 x0 y) := by
  unfold xsOf
  rw [pay8_gen, pay7_apply]
  rfl

theorem xsOf_apply (x0 : Vec Ideal S512x4096 .bf16) (y : S512x1.Idx) :
    xsOf x0 y = kScale (amaxOf (fun k : Fin 4096 => x0 (ix2 (y 0) k))) := by
  rw [xsOf_apply', pay4_apply]

theorem pay18_apply (v : FVec Ideal S512x4096 .f32) (e z : IVec S512x1 32) (y : S512x4096.Idx) :
    k0_pay18 v e z y = min (Ideal.ofBits .f32 0x43E00000#32) (max (Ideal.ofBits .f32 0xC3E00000#32)
      (v y * Ideal.ofBits .f32 (kBits (IntOp.subi (z (ix2 (y 0) 0)) (e (ix2 (y 0) 0)))))) := by
  pointwise [k0_pay18, kBits]

theorem pay3_apply (x0 : Vec Ideal S512x4096 .bf16) (y : S512x4096.Idx) : k0_pay3 x0 y = x0 y := by
  pointwise [k0_pay3]

theorem xcOf_apply (x0 : Vec Ideal S512x4096 .bf16) (y : S512x4096.Idx) :
    xcOf x0 y = codeOf (amaxOf (fun k : Fin 4096 => x0 (ix2 (y 0) k))) (x0 y) := by
  unfold xcOf
  rw [pay18_apply, pay7_apply, pay4_apply, pay3_apply]
  rfl

theorem xlOf_apply (x0 : Vec Ideal S512x4096 .bf16) (y : S512x128.Idx) :
    xlOf x0 y = xsOf x0 (ix2 (y 0) 0) := by
  unfold xlOf
  pointwise [k0_pay19]

theorem pay10_apply (am : Vec Ideal S512x128 .f32) (y : S512x1.Idx) :
    k0_pay10 am y = Finset.fold max (Ideal.ofBits .f32 0xFF800000#32) (fun l : Fin 128 => am (ix2 (y 0) l)) Finset.univ := by
  pointwise [k0_pay10]

theorem pay12_eq (am : Vec Ideal S512x128 .f32) : k0_pay12 am
    = vstep (k0_pay11 am) (vstep (k0_pay11 am) (vstep (k0_pay11 am) (vstep (k0_pay11 am) (vstep (k0_pay11 am) (broadcast S512x1 0#32) 128#32) 64#32) 32#32) 16#32) 8#32 := by
  unfold k0_pay12
  generalize k0_pay11 am = v
  exact id rfl
theorem pay12_apply (am : Vec Ideal S512x128 .f32) (y : S512x1.Idx) : k0_pay12 am y = ladder5 (k0_pay11 am y) := by
  rw [pay12_eq, vstep5]
theorem pay14_gen (a v : FVec Ideal S512x1 .f32) (f g : IVec S512x1 32) (y : S512x1.Idx) (hg : g y = IntOp.addi (f y) 4#32) :
    k0_pay14 a v f g 23#32 y = kExp (a y) (stepE (v y) (stepE (v y) (stepE (v y) (f y) 4#32) 2#32) 1#32) := by
  have e : stepE (v y) (f y) 4#32
      = Scalar.select (Ideal.cmp .oge (v y) (Ideal.ofBits .f32 (IntOp.shli .vector (g y) 23#32))) (g y) (f y) := by
    rw [hg]; rfl
  rw [e]
  exact id rfl
theorem pay14_apply (am : Vec Ideal S512x128 .f32) (y : S512x1.Idx) :
    k0_pay14 (k0_pay10 am) (k0_pay11 am) (k0_pay12 am) (k0_pay13 am) 23#32 y = kE (k0_pay10 am y) := by
  rw [pay14_gen _ _ _ _ y (by unfold k0_pay13; exact id rfl), pay12_apply]
  rfl
theorem hsOf_apply (am : Vec Ideal S512x128 .f32) (y : S512x1.Idx) : hsOf am y = kScale (k0_pay10 am y) := by
  have e : hsOf am y = Ideal.ofBits .f32 (kBits (k0_pay14 (k0_pay10 am) (k0_pay11 am) (k0_pay12 am) (k0_pay13 am) 23#32 y)) := by
    unfold hsOf k0_pay15
    generalize k0_pay14 (k0_pay10 am) (k0_pay11 am) (k0_pay12 am) (k0_pay13 am) 23#32 = e
    exact id rfl
  rw [e, pay14_apply]
  rfl
theorem pay16_apply (am : Vec Ideal S512x128 .f32) (y : S512x1.Idx) :
    k0_pay16 (k0_pay10 am) (k0_pay11 am) (k0_pay12 am) (k0_pay13 am) 23#32 y = IntOp.subi 0#32 (kE (k0_pay10 am y)) := by
  rw [← pay14_apply]
  unfold k0_pay16
  generalize k0_pay14 (k0_pay10 am) (k0_pay11 am) (k0_pay12 am) (k0_pay13 am) 23#32 = e
  exact id rfl

theorem pay2_apply (e z : IVec S512x1 32) (h : Vec Ideal S512x7168 .f32) (y : S512x7168.Idx) :
    k0_pay2 e z h y = min (Ideal.ofBits .f32 0x43E00000#32) (max (Ideal.ofBits .f32 0xC3E00000#32)
      (h y * Ideal.ofBits .f32 (IntOp.shli .vector (IntOp.minsi 255#32 (IntOp.maxsi 0#32 (IntOp.addi (e (ix2 (y 0) 0)) (z (ix2 (y 0) 0))))) 23#32))) := by
  pointwise [k0_pay2]

theorem hcOf_apply (am : Vec Ideal S512x128 .f32) (h : Vec Ideal S512x7168 .f32) (y : S512x7168.Idx) :
    hcOf am h y = codeOf (k0_pay10 am (ix2 (y 0) 0)) (h y) := by
  unfold hcOf
  rw [pay2_apply, pay16_apply]
  rfl

/-- The gated product of a row of codes with two columns of weights. -/
def gated (xc : Fin 4096 → EReal) (s : EReal) (wg wu : Fin 4096 → EReal) (sg su : EReal) : EReal :=
  ((∑ k, xc k * wg k) * s * sg) * Ideal.logistic ((∑ k, xc k * wg k) * s * sg) * ((∑ k, xc k * wu k) * s * su)

section
variable (xl : Vec Ideal S512x128 .f32) (xc : Vec Ideal S512x4096 .fp8e4m3) (x1 x2 : Vec Ideal S4096x512 .fp8e4m3) (x3 x4 : Vec Ideal S1x512 .f32)
  (s : Fin 512 → EReal) (hs : ∀ y : S512x128.Idx, xl y = s (y 0))
include hs

theorem pay21_apply (y : S512x256.Idx) : k0_pay21 xl y = s (y 0) := by
  pointwise [k0_pay21]
  split <;> exact hs _

theorem tile0_apply (y : S512x256.Idx) : tile0 xl xc x1 x2 x3 x4 y
    = gated (fun k => xc (ix2 (y 0) k)) (s (y 0)) (fun k => x1 (ix2 k ⟨(y 1).val, by have h : (y 1).val < 256 := (y 1).isLt; omega⟩))
      (fun k => x2 (ix2 k ⟨(y 1).val, by have h : (y 1).val < 256 := (y 1).isLt; omega⟩))
      (x3 (ix2 0 ⟨(y 1).val, by have h : (y 1).val < 256 := (y 1).isLt; omega⟩)) (x4 (ix2 0 ⟨(y 1).val, by have h : (y 1).val < 256 := (y 1).isLt; omega⟩)) := by
  have h21 := pay21_apply xl s hs
  unfold tile0
  generalize hp : (k0_pay21 xl : FVec Ideal S512x256 .f32) = p at h21
  pointwise [k0_pay23, k0_pay22, wHalf0, sHalf0, gated, hp, h21]
theorem tile1_apply (y : S512x256.Idx) : tile1 xl xc x1 x2 x3 x4 y
    = gated (fun k => xc (ix2 (y 0) k)) (s (y 0)) (fun k => x1 (ix2 k ⟨256 + (y 1).val, by have h : (y 1).val < 256 := (y 1).isLt; omega⟩))
      (fun k => x2 (ix2 k ⟨256 + (y 1).val, by have h : (y 1).val < 256 := (y 1).isLt; omega⟩))
      (x3 (ix2 0 ⟨256 + (y 1).val, by have h : (y 1).val < 256 := (y 1).isLt; omega⟩)) (x4 (ix2 0 ⟨256 + (y 1).val, by have h : (y 1).val < 256 := (y 1).isLt; omega⟩)) := by
  have h21 := pay21_apply xl s hs
  unfold tile1
  generalize hp : (k0_pay21 xl : FVec Ideal S512x256 .f32) = p at h21 ⊢
  pointwise [k0_pay27, k0_pay26, wHalf1, sHalf1, gated, h21]
end

section
variable (xl : Vec Ideal S512x128 .f32) (xc : Vec Ideal S512x4096 .fp8e4m3) (x1 x2 : Vec Ideal S4096x512 .fp8e4m3) (x3 x4 : Vec Ideal S1x512 .f32)
theorem abs0_apply (y : S512x256.Idx) : abs0 xl xc x1 x2 x3 x4 y = FloatOps.absf (F := Ideal) (φ := .f32) (tile0 xl xc x1 x2 x3 x4 y) := by
  unfold abs0 tile0
  generalize hp : (k0_pay22 xl xc (wHalf0 x1) xc (wHalf0 x2) (sHalf0 x3) (sHalf0 x4) : FVec Ideal S512x256 .f32) = p
  pointwise [k0_pay23, k0_pay24, hp]
theorem abs1_apply (y : S512x256.Idx) : abs1 xl xc x1 x2 x3 x4 y = FloatOps.absf (F := Ideal) (φ := .f32) (tile1 xl xc x1 x2 x3 x4 y) := by
  unfold abs1 tile1
  generalize hp : (k0_pay26 (k0_pay21 xl) xc (wHalf1 x1) xc (wHalf1 x2) (sHalf1 x3) (sHalf1 x4) : FVec Ideal S512x256 .f32) = p
  pointwise [k0_pay27, k0_pay28, hp]
theorem pay25_apply (a : FVec Ideal S512x256 .f32) (am : Vec Ideal S512x128 .f32) (y : S512x128.Idx) :
    k0_pay25 a am y = max (am y) (max (a (ix2 (y 0) ⟨(y 1).val, by have h : (y 1).val < 128 := (y 1).isLt; omega⟩))
      (a (ix2 (y 0) ⟨128 + (y 1).val, by have h : (y 1).val < 128 := (y 1).isLt; omega⟩))) := by
  pointwise [k0_pay25]
theorem pay1_apply (a : FVec Ideal S512x256 .f32) (am : Vec Ideal S512x128 .f32) (y : S512x128.Idx) :
    k0_pay1 a am y = max (am y) (max (a (ix2 (y 0) ⟨(y 1).val, by have h : (y 1).val < 128 := (y 1).isLt; omega⟩))
      (a (ix2 (y 0) ⟨128 + (y 1).val, by have h : (y 1).val < 128 := (y 1).isLt; omega⟩))) := by
  pointwise [k0_pay1]
theorem pay20_apply (y : S512x128.Idx) : (k0_pay20 (F := Ideal)) y = 0 := by
  have : (k0_pay20 (F := Ideal)) y = Ideal.ofBits .f32 0x00000000#32 := by pointwise [k0_pay20]
  rw [this, bits_zero]
end

end Cert.Val
end
-- ==== Proof.Val.Run.lean ====
module

public import proofs.«01_k».proof.Proof.Val.Kern

@[expose] public section

set_option maxRecDepth 16384

noncomputable section

namespace Cert.Val

open Cert.KernelIdeal Cert.KernelIdeal.Gen Cert.KernelIdeal.Body
open Idealize.ShloMosaic Idealize.ShloMosaic.TcCoe Idealize.ShloMosaic.Tactic

variable (m : (ℓ : Loc nD τ sig) → Buf (Elt Ideal) ℓ) (c : Dev nD)

/-- The region's inputs, as the mathematics reads them: the tokens, the weights and the weight scales. -/
def XK (r : Fin 6144) (k : Fin 4096) : EReal := V m c main_v0 (ix2 r k : S6144x4096.Idx)
def WK (k : Fin 4096) (q : Fin 14336) : EReal := V m c main_arg1 (ix2 k q : S4096x14336.Idx)
def SK (q : Fin 14336) : EReal := V m c main_v1 (ix2 0 q : S1x14336.Idx)

theorem idx : ∀ t : Fin cfg0.N, win0_0.index t = ![t.val / 14, 0] ∧ win0_1.index t = ![0, t.val % 14] ∧ win0_2.index t = ![0, t.val % 14 + 14]
    ∧ win0_3.index t = ![0, t.val % 14] ∧ win0_4.index t = ![0, t.val % 14 + 14]
    ∧ win0_5.index t = ![t.val / 14, 0] ∧ win0_6.index t = ![t.val / 14, 0] ∧ win0_7.index t = ![t.val / 14, 0] ∧ win0_8.index t = ![t.val / 14, 0] :=
  (by decide +kernel : ∀ t : Fin grid0.N, _)

theorem tlt (t : Fin cfg0.N) : t.val < 168 := Nat.lt_of_lt_of_eq t.isLt N_0

/-- Row `r` of the row block of point `t`. -/
def row (t : Fin cfg0.N) (r : Fin 512) : Fin 6144 := ⟨512 * (t.val / 14) + r.val, by have := tlt t; omega⟩
/-- Column `q` of the column block of point `t`. -/
def col (t : Fin cfg0.N) (q : Fin 512) : Fin 7168 := ⟨512 * (t.val % 14) + q.val, by omega⟩

theorem iblk0_apply (t : Fin cfg0.N) (y : S512x4096.Idx) : iblk m c 0 t y = XK m c (row t (y 0)) (y 1) := by
  blk_point [iblk, idx t, XK, row]
theorem iblk1_apply (t : Fin cfg0.N) (y : S4096x512.Idx) : iblk m c 1 t y = WK m c (y 0) ⟨(col t (y 1)).val, by omega⟩ := by
  blk_point [iblk, idx t, WK, col]
theorem iblk2_apply (t : Fin cfg0.N) (y : S4096x512.Idx) : iblk m c 2 t y = WK m c (y 0) ⟨7168 + (col t (y 1)).val, by omega⟩ := by
  blk_point [iblk, idx t, WK, col]
theorem iblk3_apply (t : Fin cfg0.N) (y : S1x512.Idx) : iblk m c 3 t y = SK m c ⟨(col t (y 1)).val, by omega⟩ := by
  blk_point [iblk, idx t, SK, col]
theorem iblk4_apply (t : Fin cfg0.N) (y : S1x512.Idx) : iblk m c 4 t y = SK m c ⟨7168 + (col t (y 1)).val, by omega⟩ := by
  blk_point [iblk, idx t, SK, col]

end Cert.Val
end
-- ==== Proof.Val.Max.lean ====
module

public import proofs.«01_k».proof.Proof.Val.Run

@[expose] public section

set_option maxRecDepth 16384

noncomputable section

namespace Cert.Val

open Cert.KernelIdeal Cert.KernelIdeal.Gen Cert.KernelIdeal.Body
open Idealize.ShloMosaic Idealize.ShloMosaic.TcCoe Idealize.ShloMosaic.Tactic

variable (m : (ℓ : Loc nD τ sig) → Buf (Elt Ideal) ℓ) (c : Dev nD)

/-- The gated activation of the region's inputs. -/
abbrev HK (r : Fin 6144) (q : Fin 7168) : EReal := hh (XK m c) (WK m c) (SK m c) r q
/-- The magnitude the running maximum is taken over. -/
abbrev mag (v : EReal) : EReal := FloatOps.absf (F := Ideal) (φ := .f32) v

theorem mag_nonneg (v : EReal) : 0 ≤ mag v := by
  show (0 : EReal) ≤ max v (-v)
  rcases le_total 0 v with h | h
  · exact le_max_of_le_left h
  · exact le_max_of_le_right (by simpa using EReal.neg_le_neg_iff.mpr h)

theorem row_iblk (t : Fin cfg0.N) (r : Fin 512) : (fun k : Fin 4096 => iblk m c 0 t (ix2 r k)) = XK m c (row t r) :=
  funext fun k => iblk0_apply m c t (ix2 r k)

theorem xsOf_iblk (t : Fin cfg0.N) (y : S512x1.Idx) : xsOf (iblk m c 0 t) y = xscale (XK m c) (row t (y 0)) :=
  (xsOf_apply _ y).trans (congrArg (fun f => kScale (amaxOf f)) (row_iblk m c t (y 0)))

theorem xcOf_iblk (t : Fin cfg0.N) (y : S512x4096.Idx) : xcOf (iblk m c 0 t) y = xcode (XK m c) (row t (y 0)) (y 1) :=
  (xcOf_apply _ y).trans (congrArg₂ (fun f v => codeOf (amaxOf f) v) (row_iblk m c t (y 0)) (iblk0_apply m c t y))

theorem xlOf_iblk (t : Fin cfg0.N) (y : S512x128.Idx) : xlOf (iblk m c 0 t) y = xscale (XK m c) (row t (y 0)) :=
  (xlOf_apply _ y).trans (xsOf_iblk m c t (ix2 (y 0) 0))

theorem gated_iblk (t : Fin cfg0.N) (r q : Fin 512) :
    gated (fun k => xcOf (iblk m c 0 t) (ix2 r k)) (xscale (XK m c) (row t r)) (fun k => iblk m c 1 t (ix2 k q)) (fun k => iblk m c 2 t (ix2 k q))
      (iblk m c 3 t (ix2 0 q)) (iblk m c 4 t (ix2 0 q)) = HK m c (row t r) (col t q) := by
  have e0 : (fun k : Fin 4096 => xcOf (iblk m c 0 t) (ix2 r k)) = fun k => xcode (XK m c) (row t r) k :=
    funext fun k => xcOf_iblk m c t (ix2 r k)
  have e1 : (fun k : Fin 4096 => iblk m c 1 t (ix2 k q)) = fun k => WK m c k ⟨(col t q).val, by omega⟩ :=
    funext fun k => iblk1_apply m c t (ix2 k q)
  have e2 : (fun k : Fin 4096 => iblk m c 2 t (ix2 k q)) = fun k => WK m c k ⟨7168 + (col t q).val, by omega⟩ :=
    funext fun k => iblk2_apply m c t (ix2 k q)
  have e3 := iblk3_apply m c t (ix2 0 q)
  have e4 := iblk4_apply m c t (ix2 0 q)
  rw [e0, e1, e2]
  refine (congrArg₂ (gated _ _ _ _) e3 e4).trans ?_
  rfl

theorem t0At_apply (t : Fin cfg0.N) (y : S512x256.Idx) :
    t0At m c t y = HK m c (row t (y 0)) (col t ⟨(y 1).val, by have h : (y 1).val < 256 := (y 1).isLt; omega⟩) := by
  unfold t0At
  rw [tile0_apply _ _ _ _ _ _ (fun r => xscale (XK m c) (row t r)) (xlOf_iblk m c t)]
  exact gated_iblk m c t (y 0) ⟨(y 1).val, by have h : (y 1).val < 256 := (y 1).isLt; omega⟩
theorem t1At_apply (t : Fin cfg0.N) (y : S512x256.Idx) :
    t1At m c t y = HK m c (row t (y 0)) (col t ⟨256 + (y 1).val, by have h : (y 1).val < 256 := (y 1).isLt; omega⟩) := by
  unfold t1At
  rw [tile1_apply _ _ _ _ _ _ (fun r => xscale (XK m c) (row t r)) (xlOf_iblk m c t)]
  exact gated_iblk m c t (y 0) ⟨256 + (y 1).val, by have h : (y 1).val < 256 := (y 1).isLt; omega⟩

/-- The row block of `h` after its last point, entry by entry. -/
theorem hv_apply (t : Fin cfg0.N) (y : S512x7168.Idx) : hv m c t y = HK m c (row t (y 0)) (y 1) := by
  have h1 : (y 1).val < 7168 := (y 1).isLt
  have ht := tlt t
  have er : ∀ k : Fin 14, row (runPt t k) (y 0) = row t (y 0) := fun k => Fin.ext (by
    show 512 * ((14 * (t.val / 14) + k.val) / 14) + (y 0).val = 512 * (t.val / 14) + (y 0).val; omega)
  unfold hv
  split
  · refine (t0At_apply m c _ _).trans ?_
    refine congrArg₂ (HK m c) (er _) (Fin.ext ?_)
    show 512 * ((14 * (t.val / 14) + (y 1).val / 512) % 14) + (y 1).val % 256 = (y 1).val
    omega
  · refine (t1At_apply m c _ _).trans ?_
    refine congrArg₂ (HK m c) (er _) (Fin.ext ?_)
    show 512 * ((14 * (t.val / 14) + (y 1).val / 512) % 14) + (256 + (y 1).val % 256) = (y 1).val
    omega

/-- A bound of the maximum after one more point is a bound of it before and of the four magnitudes of the lane. -/
theorem amStep_le (t : Fin cfg0.N) (am : Vec Ideal S512x128 .f32) (y : S512x128.Idx) (b : EReal) :
    amStep m c t am y ≤ b ↔ am y ≤ b ∧ ∀ q : Fin 512, q.val % 128 = (y 1).val → mag (HK m c (row t (y 0)) (col t q)) ≤ b := by
  have hl : (y 1).val < 128 := (y 1).isLt
  have a0 : ∀ z : S512x256.Idx, abs0 (xlOf (iblk m c 0 t)) (xcOf (iblk m c 0 t)) (iblk m c 1 t) (iblk m c 2 t) (iblk m c 3 t) (iblk m c 4 t) z
      = mag (HK m c (row t (z 0)) (col t ⟨(z 1).val, by have h : (z 1).val < 256 := (z 1).isLt; omega⟩)) := fun z => by
    rw [abs0_apply]; exact congrArg mag (t0At_apply m c t z)
  have a1 : ∀ z : S512x256.Idx, abs1 (xlOf (iblk m c 0 t)) (xcOf (iblk m c 0 t)) (iblk m c 1 t) (iblk m c 2 t) (iblk m c 3 t) (iblk m c 4 t) z
      = mag (HK m c (row t (z 0)) (col t ⟨256 + (z 1).val, by have h : (z 1).val < 256 := (z 1).isLt; omega⟩)) := fun z => by
    rw [abs1_apply]; exact congrArg mag (t1At_apply m c t z)
  unfold amStep amOf
  rw [pay1_apply, pay25_apply, a0, a0, a1, a1]
  constructor
  · intro h
    simp only [max_le_iff] at h
    obtain ⟨⟨h0, h1, h2⟩, h3, h4⟩ := h
    refine ⟨h0, fun q hq => ?_⟩
    have hq2 := q.isLt
    have : q.val = (y 1).val ∨ q.val = 128 + (y 1).val ∨ q.val = 256 + (y 1).val ∨ q.val = 256 + (128 + (y 1).val) := by omega
    rcases this with e | e | e | e
    · rw [show q = ⟨(y 1).val, by omega⟩ from Fin.ext e]; exact h1
    · rw [show q = ⟨128 + (y 1).val, by omega⟩ from Fin.ext e]; exact h2
    · rw [show q = ⟨256 + (y 1).val, by omega⟩ from Fin.ext e]; exact h3
    · rw [show q = ⟨256 + (128 + (y 1).val), by omega⟩ from Fin.ext e]; exact h4
  · rintro ⟨h0, h⟩
    simp only [max_le_iff]
    exact ⟨⟨h0, h ⟨(y 1).val, by omega⟩ (by show (y 1).val % 128 = _; omega), h ⟨128 + (y 1).val, by omega⟩ (by show (128 + (y 1).val) % 128 = _; omega)⟩,
      h ⟨256 + (y 1).val, by omega⟩ (by show (256 + (y 1).val) % 128 = _; omega), h ⟨256 + (128 + (y 1).val), by omega⟩ (by show (256 + (128 + (y 1).val)) % 128 = _; omega)⟩

/-- The running maximum after a point: the bounds it has are those of the lane's magnitudes so far. -/
theorem amAt_le (y : S512x128.Idx) (b : EReal) : ∀ (n : ℕ) (hn : n < cfg0.N), amAt m c n hn y ≤ b ↔
    0 ≤ b ∧ ∀ q : Fin 7168, q.val < 512 * (n % 14 + 1) → q.val % 128 = (y 1).val → mag (HK m c (row ⟨n, hn⟩ (y 0)) q) ≤ b := by
  have reset : ∀ (n : ℕ) (hn : n < cfg0.N), n % 14 = 0 → (amAt m c n hn y ≤ b ↔
      0 ≤ b ∧ ∀ q : Fin 7168, q.val < 512 * (n % 14 + 1) → q.val % 128 = (y 1).val → mag (HK m c (row ⟨n, hn⟩ (y 0)) q) ≤ b) := by
    intro n hn h0
    rw [amAt_reset m c ⟨n, hn⟩ h0, amStep_le, pay20_apply]
    refine and_congr_right fun _ => ⟨fun h q hq hl => ?_, fun h q hl => ?_⟩
    · have e : q = col ⟨n, hn⟩ ⟨q.val, by omega⟩ := Fin.ext (by show q.val = 512 * (n % 14) + q.val; omega)
      rw [e]; exact h _ hl
    · exact h _ (by show 512 * (n % 14) + q.val < _; omega) (by show (512 * (n % 14) + q.val) % 128 = _; omega)
  intro n
  induction n with
  | zero => intro hn; exact reset 0 hn rfl
  | succ n ih =>
    intro hn
    by_cases h0 : (n + 1) % 14 = 0
    · exact reset _ hn h0
    · rw [amAt_step m c ⟨n + 1, hn⟩ h0, amStep_le]
      have ihn := ih (Nat.lt_of_succ_lt hn)
      have er : row ⟨n, Nat.lt_of_succ_lt hn⟩ (y 0) = row ⟨n + 1, hn⟩ (y 0) := Fin.ext (by
        show 512 * (n / 14) + _ = 512 * ((n + 1) / 14) + _; omega)
      rw [er] at ihn
      refine (and_congr_left' ihn).trans ?_
      constructor
      · rintro ⟨⟨hb, h1⟩, h2⟩
        refine ⟨hb, fun q hq hl => ?_⟩
        by_cases hlt : q.val < 512 * (n % 14 + 1)
        · exact h1 q hlt hl
        · have e : q = col ⟨n + 1, hn⟩ ⟨q.val - 512 * ((n + 1) % 14), by omega⟩ := Fin.ext (by
            show q.val = 512 * ((n + 1) % 14) + (q.val - 512 * ((n + 1) % 14)); omega)
          rw [e]; exact h2 _ (by show (q.val - 512 * ((n + 1) % 14)) % 128 = _; omega)
      · rintro ⟨hb, h⟩
        exact ⟨⟨hb, fun q hq hl => h q (by omega) hl⟩, fun q hl => h _ (by show 512 * ((n + 1) % 14) + q.val < _; omega)
          (by show (512 * ((n + 1) % 14) + q.val) % 128 = _; omega)⟩

/-- At the last point of a row block the row maximum of the lanes is the row's amax. -/
theorem pay10_amAt (t : Fin cfg0.N) (ht : t.val % 14 = 13) (y : S512x1.Idx) :
    k0_pay10 (amAt m c t.val t.isLt) y = amaxOf (HK m c (row t (y 0))) := by
  rw [pay10_apply]
  refine eq_of_forall_ge_iff fun b => ?_
  unfold amaxOf
  rw [Finset.fold_max_le, Finset.fold_max_le]
  refine and_congr_right fun _ => ⟨fun h q _ => ?_, fun h l _ => ?_⟩
  · have h2 := (amAt_le m c (ix2 (y 0) ⟨q.val % 128, by omega⟩) b t.val t.isLt).mp (h ⟨q.val % 128, by omega⟩ (Finset.mem_univ _))
    exact h2.2 q (by have := q.isLt; omega) rfl
  · refine (amAt_le m c (ix2 (y 0) l) b t.val t.isLt).mpr ⟨le_trans (mag_nonneg _) (h 0 (Finset.mem_univ _)), fun q _ _ => h q (Finset.mem_univ _)⟩

theorem hsOf_amAt (t : Fin cfg0.N) (ht : t.val % 14 = 13) (y : S512x1.Idx) :
    hsOf (amAt m c t.val t.isLt) y = hscale (XK m c) (WK m c) (SK m c) (row t (y 0)) := by
  rw [hsOf_apply, pay10_amAt m c t ht]; rfl

theorem hcOf_amAt (t : Fin cfg0.N) (ht : t.val % 14 = 13) (y : S512x7168.Idx) :
    hcOf (amAt m c t.val t.isLt) (hv m c t) y = hcode (XK m c) (WK m c) (SK m c) (row t (y 0)) (y 1) := by
  rw [hcOf_apply, pay10_amAt m c t ht, hv_apply]; rfl

end Cert.Val
end
-- ==== Proof.Val.Arr.lean ====
module

public import proofs.«01_k».proof.Proof.Val.Max

@[expose] public section

set_option maxRecDepth 16384

noncomputable section

namespace Cert.Val

open Cert.KernelIdeal Cert.KernelIdeal.Gen Cert.KernelIdeal.Body
open Idealize.ShloMosaic Idealize.ShloMosaic.TcCoe Idealize.ShloMosaic.Tactic

variable (m : (ℓ : Loc nD τ sig) → Buf (Elt Ideal) ℓ) (c : Dev nD)

theorem flushes : ∀ t : Fin cfg0.N, (win0_5.flush t = true → t.val % 14 = 13) ∧ (win0_6.flush t = true → t.val % 14 = 13) :=
  (by decide +kernel : ∀ t : Fin grid0.N, _)

/-- The kernel's four arrays after the run. -/
theorem arr5 : ((dats m 0 c).arrAt 5 (cfgs 0).N : S6144x1.Idx → EReal) = fun y => hscale (XK m c) (WK m c) (SK m c) (y 0) := by
  refine (dats m 0 c).arrAt_eq_of_covers 5 _ (by decide +kernel) fun t hf y => ?_
  blk_simp
  rw [after0_5]
  refine (hsOf_amAt m c t ((flushes t).1 hf) _).trans ?_
  refine congrArg (hscale (XK m c) (WK m c) (SK m c)) ?_
  refine Fin.ext ?_
  blk_simp [idx t, row]
  try simp
  try omega

theorem arr6 : ((dats m 0 c).arrAt 6 (cfgs 0).N : S6144x7168.Idx → EReal) = fun y => hcode (XK m c) (WK m c) (SK m c) (y 0) (y 1) := by
  refine (dats m 0 c).arrAt_eq_of_covers 6 _ (by decide +kernel) fun t hf y => ?_
  blk_simp
  rw [after0_6]
  refine (hcOf_amAt m c t ((flushes t).2 hf) _).trans ?_
  refine congrArg₂ (hcode (XK m c) (WK m c) (SK m c)) ?_ ?_
  · refine Fin.ext ?_
    blk_simp [idx t, row]
    try simp
    try omega
  · refine Fin.ext ?_
    blk_simp [idx t, row]
    try simp
    try omega

theorem arr7 : ((dats m 0 c).arrAt 7 (cfgs 0).N : S6144x4096.Idx → EReal) = fun y => xcode (XK m c) (y 0) (y 1) := by
  refine (dats m 0 c).arrAt_eq_of_covers 7 _ (by decide +kernel) fun t hf y => ?_
  blk_simp
  rw [after0_7]
  refine (xcOf_iblk m c t _).trans ?_
  refine congrArg₂ (xcode (XK m c)) ?_ ?_
  · refine Fin.ext ?_
    blk_simp [idx t, row]
    try simp
    try omega
  · refine Fin.ext ?_
    blk_simp [idx t, row]
    try simp
    try omega

theorem arr8 : ((dats m 0 c).arrAt 8 (cfgs 0).N : S6144x1.Idx → EReal) = fun y => xscale (XK m c) (y 0) := by
  refine (dats m 0 c).arrAt_eq_of_covers 8 _ (by decide +kernel) fun t hf y => ?_
  blk_simp
  rw [after0_8]
  refine (xsOf_iblk m c t _).trans ?_
  refine congrArg (xscale (XK m c)) ?_
  refine Fin.ext ?_
  blk_simp [idx t, row]
  try simp
  try omega

end Cert.Val
end
-- ==== Proof.Val.Ref.lean ====
module

public import proofs.«01_k».proof.Proof.Val.Arr
public import proofs.«01_k».proof.Proof.Gen.ReferenceIdeal.Frame

@[expose] public section

set_option maxRecDepth 16384

noncomputable section

namespace Cert.Val.Ref

open Cert.Val Cert.ReferenceIdeal Cert.ReferenceIdeal.Gen
open Idealize.ShloMosaic Idealize.ShloMosaic.TcCoe Idealize.ShloMosaic.Tactic

/-! ## The stored values of the reference, entry by entry -/

theorem pay1_apply (v0 : Vec Ideal S6144x4096 .bf16) (y : S6144x4096.Idx) : k0_pay1 v0 y = v0 y := by
  pointwise [k0_pay1]

/-- The row amax before the scale. -/
def amx (v0 : Vec Ideal S6144x4096 .bf16) : FVec Ideal S6144x1 .f32 :=
  shapeCast S6144x1 (multiReduction .maximumf [1] S6144 (absf (k0_pay1 v0)) 0xFF800000#32 reduces_S6144x4096_S6144 (.inl rfl) rfl) shapeCasts_S6144_S6144x1
theorem amx_apply (v0 : Vec Ideal S6144x4096 .bf16) (y : S6144x1.Idx) : amx v0 y = amaxOf (fun k : Fin 4096 => v0 (ix2 (y 0) k)) := by
  pointwise [amx, k0_pay1, amaxOf]
/-- The exponent of `frexp` of a row's amax over 448, over all rows, before the case of a zero row. -/
def frV (a : FVec Ideal S6144x1 .f32) : FVec Ideal S6144x1 .f32 :=
  select (ori (cmpf .olt (mulf a (broadcast S6144x1 (Scalar.ofBits .f32 0x3B124925#32))) (broadcast S6144x1 (Scalar.ofBits .f32 0x00800000#32)))
      (cmpf .oeq (mulf a (broadcast S6144x1 (Scalar.ofBits .f32 0x3B124925#32))) (broadcast S6144x1 (Scalar.ofBits .f32 0x7F800000#32))))
    (broadcast S6144x1 (Scalar.ofBits .f32 0x00000000#32))
    (addf (floor (divf (log (mulf a (broadcast S6144x1 (Scalar.ofBits .f32 0x3B124925#32)))) (log (broadcast S6144x1 (Scalar.ofBits .f32 0x40000000#32)))))
      (broadcast S6144x1 (Scalar.ofBits .f32 0x3F800000#32)))
theorem frV_apply (a : FVec Ideal S6144x1 .f32) (y : S6144x1.Idx) : frV a y = rFrexp (a y * cst448) := by
  pointwise [frV, rFrexp, cst448]
theorem pay2_eq (v0 : Vec Ideal S6144x4096 .bf16) : k0_pay2 v0
    = select (cmpf .oeq (amx v0) (broadcast S6144x1 (Scalar.ofBits .f32 0x00000000#32))) (broadcast S6144x1 (Scalar.ofBits .f32 0x00000000#32)) (frV (amx v0)) := by
  unfold k0_pay2 frV amx
  generalize k0_pay1 v0 = x
  exact id rfl
theorem zsel_apply (a f : FVec Ideal S6144x1 .f32) (y : S6144x1.Idx) :
    select (cmpf .oeq a (broadcast S6144x1 (Scalar.ofBits .f32 0x00000000#32))) (broadcast S6144x1 (Scalar.ofBits .f32 0x00000000#32)) f y
      = Scalar.select (Ideal.cmp .oeq (a y) (Ideal.ofBits .f32 0x00000000#32)) (Ideal.ofBits .f32 0x00000000#32) (f y) := by
  pointwise
theorem pay2_apply (v0 : Vec Ideal S6144x4096 .bf16) (y : S6144x1.Idx) :
    k0_pay2 v0 y = rE (amaxOf (fun k : Fin 4096 => v0 (ix2 (y 0) k))) := by
  rw [← amx_apply, pay2_eq, zsel_apply, frV_apply]
  unfold rE
  with_reducible rfl

theorem pay6_apply (e : FVec Ideal S6144x1 .f32) (y : S6144x1.Idx) : k0_pay6 e y = rLdexp (e y) := by
  exact id rfl

theorem pay3_eq (v0 : Vec Ideal S6144x4096 .bf16) : k0_pay3 v0
    = maximumf (broadcast S6144x4096 (Scalar.ofBits .f32 0xC3E00000#32)) (mulf (k0_pay1 v0)
      (broadcastTo S6144x4096 (k0_pay6 (subf (broadcast S6144x1 (Scalar.ofBits .f32 0x00000000#32)) (k0_pay2 v0))) broadcasts_S6144x1_S6144x4096)) := by
  unfold k0_pay3 k0_pay6
  generalize k0_pay2 v0 = e
  generalize k0_pay1 v0 = x
  exact id rfl
theorem neg_apply (e : FVec Ideal S6144x1 .f32) (y : S6144x1.Idx) :
    k0_pay6 (subf (broadcast S6144x1 (Scalar.ofBits .f32 0x00000000#32)) e) y = rLdexp (Ideal.ofBits .f32 0x00000000#32 - e y) := by
  rw [pay6_apply]
  exact id rfl
theorem pay3_apply (v0 : Vec Ideal S6144x4096 .bf16) (y : S6144x4096.Idx) :
    k0_pay3 v0 y = max (Ideal.ofBits .f32 0xC3E00000#32) (v0 y * rLdexp (Ideal.ofBits .f32 0x00000000#32 - k0_pay2 v0 (ix2 (y 0) 0))) := by
  rw [pay3_eq, ← neg_apply, ← pay1_apply v0 y]
  generalize (k0_pay6 (subf (broadcast S6144x1 (Scalar.ofBits .f32 0x00000000#32)) (k0_pay2 v0)) : FVec Ideal S6144x1 .f32) = e
  generalize k0_pay1 v0 = x
  pointwise

theorem pay5_apply (a b : FVec Ideal S6144x4096 .f32) (y : S6144x4096.Idx) : k0_pay5 a b y = min (b y) (a y) := by
  pointwise [k0_pay5]
theorem pay4_apply (y : S6144x4096.Idx) : (k0_pay4 (F := Ideal)) y = Ideal.ofBits .f32 0x43E00000#32 := by
  pointwise [k0_pay4]

theorem codes_apply (v0 : Vec Ideal S6144x4096 .bf16) (y : S6144x4096.Idx) :
    k0_pay5 (k0_pay3 v0) (k0_pay4 (F := Ideal)) y = codeOf (amaxOf (fun k : Fin 4096 => v0 (ix2 (y 0) k))) (v0 y) := by
  rw [pay5_apply, pay4_apply, pay3_apply, pay2_apply]
  unfold codeOf
  rw [(scales_eq _).2]
  rfl

theorem scale_apply (v0 : Vec Ideal S6144x4096 .bf16) (y : S6144x1.Idx) :
    k0_pay6 (k0_pay2 v0) y = kScale (amaxOf (fun k : Fin 4096 => v0 (ix2 (y 0) k))) := by
  rw [pay6_apply, pay2_apply, (scales_eq _).1]
  rfl

theorem pay7_apply (e : FVec Ideal S6144x1 .f32) (a b : FVec Ideal S6144x4096 .f32) (w : Vec Ideal S4096x14336 .fp8e4m3) (ws : Vec Ideal S1x14336 .f32) (y : S6144x7168.Idx) :
    k0_pay7 e a b w ws y = gated (fun k => k0_pay5 a b (ix2 (y 0) k)) (k0_pay6 e (ix2 (y 0) 0))
      (fun k => w (ix2 k ⟨(y 1).val, by have h : (y 1).val < 7168 := (y 1).isLt; omega⟩)) (fun k => w (ix2 k ⟨7168 + (y 1).val, by have h : (y 1).val < 7168 := (y 1).isLt; omega⟩))
      (ws (ix2 0 ⟨(y 1).val, by have h : (y 1).val < 7168 := (y 1).isLt; omega⟩)) (ws (ix2 0 ⟨7168 + (y 1).val, by have h : (y 1).val < 7168 := (y 1).isLt; omega⟩)) := by
  unfold k0_pay7
  generalize (k0_pay5 a b : FVec Ideal S6144x4096 .fp8e4m3) = xc
  generalize (k0_pay6 e : FVec Ideal S6144x1 .f32) = s
  pointwise [gated]

section
variable (e : FVec Ideal S6144x1 .f32) (a b : FVec Ideal S6144x4096 .f32) (w : Vec Ideal S4096x14336 .fp8e4m3) (ws : Vec Ideal S1x14336 .f32)
theorem pay8_apply (y : S6144x1.Idx) : k0_pay8 e a b w ws y = amaxOf (fun q : Fin 7168 => k0_pay7 e a b w ws (ix2 (y 0) q)) := by
  unfold k0_pay8
  generalize (k0_pay7 e a b w ws : FVec Ideal S6144x7168 .f32) = h
  pointwise [amaxOf]
theorem pay9_eq : k0_pay9 e a b w ws = frV (k0_pay8 e a b w ws) := by
  unfold k0_pay9 frV
  generalize (k0_pay8 e a b w ws : FVec Ideal S6144x1 .f32) = h
  exact id rfl
theorem pay10_eq (u v : FVec Ideal S6144x1 .f32) : k0_pay10 u v (Scalar.ofBits .f32 0x00000000#32)
    = select (cmpf .oeq u (broadcast S6144x1 (Scalar.ofBits .f32 0x00000000#32))) (broadcast S6144x1 (Scalar.ofBits .f32 0x00000000#32)) v := by
  unfold k0_pay10
  exact id rfl
theorem pay10_apply (y : S6144x1.Idx) :
    k0_pay10 (k0_pay8 e a b w ws) (k0_pay9 e a b w ws) (Scalar.ofBits .f32 0x00000000#32) y = rE (k0_pay8 e a b w ws y) := by
  rw [pay9_eq, pay10_eq, zsel_apply, frV_apply]
  unfold rE
  with_reducible rfl
theorem pay12_eq (u v : FVec Ideal S6144x1 .f32) (z : Ideal .f32) : k0_pay12 u v z = k0_pay6 (k0_pay10 u v z) := by
  unfold k0_pay12 k0_pay6
  generalize (k0_pay10 u v z : FVec Ideal S6144x1 .f32) = x
  exact id rfl
theorem pay12_apply (y : S6144x1.Idx) :
    k0_pay12 (k0_pay8 e a b w ws) (k0_pay9 e a b w ws) (Scalar.ofBits .f32 0x00000000#32) y = kScale (k0_pay8 e a b w ws y) := by
  rw [(scales_eq _).1, pay12_eq, pay6_apply, pay10_apply]
  unfold rScale
  with_reducible rfl
theorem pay11_eq (h : FVec Ideal S6144x7168 .f32) (u v : FVec Ideal S6144x1 .f32) (z : Ideal .f32) : k0_pay11 h u v z
    = truncf .fp8e4m3 (minimumf (broadcast S6144x7168 (Scalar.ofBits .f32 0x43E00000#32)) (maximumf (broadcast S6144x7168 (Scalar.ofBits .f32 0xC3E00000#32)) (mulf h
      (broadcastTo S6144x7168 (k0_pay6 (subf (broadcast S6144x1 (Scalar.ofBits .f32 0x00000000#32)) (k0_pay10 u v z))) broadcasts_S6144x1_S6144x7168)))) bitsLt_fp8e4m3_f32 := by
  unfold k0_pay11 k0_pay6
  generalize k0_pay10 u v z = e
  exact id rfl
theorem pay11_gen (h : FVec Ideal S6144x7168 .f32) (u v : FVec Ideal S6144x1 .f32) (z : Ideal .f32) (y : S6144x7168.Idx) :
    k0_pay11 h u v z y = min (Ideal.ofBits .f32 0x43E00000#32) (max (Ideal.ofBits .f32 0xC3E00000#32)
      (h y * rLdexp (Ideal.ofBits .f32 0x00000000#32 - k0_pay10 u v z (ix2 (y 0) 0)))) := by
  rw [pay11_eq, ← neg_apply]
  generalize (k0_pay6 (subf (broadcast S6144x1 (Scalar.ofBits .f32 0x00000000#32)) (k0_pay10 u v z)) : FVec Ideal S6144x1 .f32) = e
  pointwise
theorem pay11_apply (y : S6144x7168.Idx) :
    k0_pay11 (k0_pay7 e a b w ws) (k0_pay8 e a b w ws) (k0_pay9 e a b w ws) (Scalar.ofBits .f32 0x00000000#32) y
      = codeOf (k0_pay8 e a b w ws (ix2 (y 0) 0)) (k0_pay7 e a b w ws y) := by
  rw [pay11_gen, pay10_apply]
  unfold codeOf
  rw [(scales_eq _).2]
  rfl
end

end Cert.Val.Ref
end
-- ==== Proof.Val.RefArr.lean ====
module

public import proofs.«01_k».proof.Proof.Val.Ref

@[expose] public section

set_option maxRecDepth 16384

noncomputable section

namespace Cert.Val.Ref

open Cert.Val Cert.ReferenceIdeal Cert.ReferenceIdeal.Gen
open Idealize.ShloMosaic Idealize.ShloMosaic.TcCoe Idealize.ShloMosaic.Tactic

section
variable (x0 : Vec Ideal S6144x4096 .bf16) (x1 : Vec Ideal S4096x14336 .fp8e4m3) (x2 : Vec Ideal S1x14336 .f32)

/-- The inputs as the mathematics reads them. -/
abbrev fX (r : Fin 6144) (k : Fin 4096) : EReal := x0 (ix2 r k)
abbrev fW (k : Fin 4096) (q : Fin 14336) : EReal := x1 (ix2 k q)
abbrev fS (q : Fin 14336) : EReal := x2 (ix2 0 q)

theorem ld0 : View.ld x0 r0_0 = x0 := View.ld_unit_lit _ _ (by decide)
theorem ld1 : View.ld x1 r0_1 = x1 := View.ld_unit_lit _ _ (by decide)
theorem ld2 : View.ld x2 r0_2 = x2 := View.ld_unit_lit _ _ (by decide)

theorem h_apply (y : S6144x7168.Idx) :
    k0_pay7 (k0_pay13 x0 x1 x2) (k0_pay14 x0 x1 x2) (k0_pay15 x0 x1 x2) x1 x2 y = hh (fX x0) (fW x1) (fS x2) (y 0) (y 1) := by
  unfold k0_pay13 k0_pay14 k0_pay15
  rw [ld0, pay7_apply, scale_apply]
  have e0 : (fun k : Fin 4096 => k0_pay5 (k0_pay3 x0) (k0_pay4 (F := Ideal)) (ix2 (y 0) k)) = fun k => xcode (fX x0) (y 0) k :=
    funext fun k => codes_apply x0 (ix2 (y 0) k)
  rw [e0]
  rfl

theorem amaxh_apply (y : S6144x1.Idx) : k0_pay16 x0 x1 x2 y = amaxOf (hh (fX x0) (fW x1) (fS x2) (y 0)) := by
  unfold k0_pay16
  rw [ld1, ld2, pay8_apply]
  exact congrArg amaxOf (funext fun q => h_apply x0 x1 x2 (ix2 (y 0) q))

theorem pc12_apply (y : S6144x1.Idx) :
    k0_pay12 (k0_pay16 x0 x1 x2) (k0_pay17 x0 x1 x2) (Scalar.ofBits .f32 0x00000000#32) y = hscale (fX x0) (fW x1) (fS x2) (y 0) := by
  have h := amaxh_apply x0 x1 x2 y
  unfold k0_pay16 at h
  unfold k0_pay16 k0_pay17
  rw [ld1, ld2] at h ⊢
  rw [pay12_apply, h]
  rfl

theorem pc11_apply (y : S6144x7168.Idx) :
    k0_pay11 (k0_pay7 (k0_pay13 x0 x1 x2) (k0_pay14 x0 x1 x2) (k0_pay15 x0 x1 x2) x1 x2) (k0_pay16 x0 x1 x2) (k0_pay17 x0 x1 x2)
      (Scalar.ofBits .f32 0x00000000#32) y = hcode (fX x0) (fW x1) (fS x2) (y 0) (y 1) := by
  have h := amaxh_apply x0 x1 x2 (ix2 (y 0) 0)
  unfold k0_pay16 at h
  unfold k0_pay16 k0_pay17
  rw [ld1, ld2] at h ⊢
  rw [pay11_apply, h, h_apply]
  rfl
end

variable (m : (ℓ : Loc nD τ sig) → Buf (Elt Ideal) ℓ) (c : Dev nD)

/-- The region's inputs, as the mathematics reads them: the tokens, the weights and the weight scales. -/
def XR (r : Fin 6144) (k : Fin 4096) : EReal := V m c main_v0 (ix2 r k : S6144x4096.Idx)
def WR (k : Fin 4096) (q : Fin 14336) : EReal := V m c main_arg1 (ix2 k q : S4096x14336.Idx)
def SR (q : Fin 14336) : EReal := V m c main_v1 (ix2 0 q : S1x14336.Idx)

theorem idx : ∀ t : Fin cfg0.N, win0_0.index t = ![0, 0] ∧ win0_1.index t = ![0, 0] ∧ win0_2.index t = ![0, 0] :=
  (by decide +kernel : ∀ t : Fin grid0.N, _)

theorem fX_iblk (t : Fin cfg0.N) : fX (iblk m c 0 t) = XR m c := by
  funext r k
  show iblk m c 0 t (ix2 r k) = XR m c r k
  blk_point [iblk, idx t, XR]
theorem fW_iblk (t : Fin cfg0.N) : fW (iblk m c 1 t) = WR m c := by
  funext r k
  show iblk m c 1 t (ix2 r k) = WR m c r k
  blk_point [iblk, idx t, WR]
theorem fS_iblk (t : Fin cfg0.N) : fS (iblk m c 2 t) = SR m c := by
  funext k
  show iblk m c 2 t (ix2 0 k) = SR m c k
  blk_point [iblk, idx t, SR]

/-- The reference's four arrays after the run. -/
theorem arr3 : ((dats m 0 c).arrAt 3 (cfgs 0).N : S6144x1.Idx → EReal) = fun y => hscale (XR m c) (WR m c) (SR m c) (y 0) := by
  refine (dats m 0 c).arrAt_eq_of_after_last 3 t0_0 (by decide +kernel) _ fun y => ?_
  blk_simp
  rw [after0_3]
  frame_out
  refine (pc12_apply _ _ _ _).trans ?_
  rw [fX_iblk, fW_iblk, fS_iblk]
  try rfl
theorem arr4 : ((dats m 0 c).arrAt 4 (cfgs 0).N : S6144x7168.Idx → EReal) = fun y => hcode (XR m c) (WR m c) (SR m c) (y 0) (y 1) := by
  refine (dats m 0 c).arrAt_eq_of_after_last 4 t0_0 (by decide +kernel) _ fun y => ?_
  blk_simp
  rw [after0_4]
  frame_out
  refine (pc11_apply _ _ _ _).trans ?_
  rw [fX_iblk, fW_iblk, fS_iblk]
  try rfl
theorem arr5 : ((dats m 0 c).arrAt 5 (cfgs 0).N : S6144x4096.Idx → EReal) = fun y => xcode (XR m c) (y 0) (y 1) := by
  refine (dats m 0 c).arrAt_eq_of_after_last 5 t0_0 (by decide +kernel) _ fun y => ?_
  blk_simp
  rw [after0_5]
  frame_out
  unfold k0_pay14 k0_pay15
  rw [ld0]
  refine (codes_apply _ _).trans ?_
  show codeOf (amaxOf (fX (iblk m c 0 t0_0) _)) (fX (iblk m c 0 t0_0) _ _) = _
  rw [fX_iblk]
  try rfl
theorem arr6 : ((dats m 0 c).arrAt 6 (cfgs 0).N : S6144x1.Idx → EReal) = fun y => xscale (XR m c) (y 0) := by
  refine (dats m 0 c).arrAt_eq_of_after_last 6 t0_0 (by decide +kernel) _ fun y => ?_
  blk_simp
  rw [after0_6]
  frame_out
  unfold k0_pay13
  rw [ld0]
  refine (scale_apply _ _).trans ?_
  show kScale (amaxOf (fX (iblk m c 0 t0_0) _)) = _
  rw [fX_iblk]
  try rfl

end Cert.Val.Ref
end
-- ==== Proof.Val.Tail.lean ====
module

public import proofs.«01_k».proof.Proof.Val.RefArr
public import proofs.«01_k».proof.Defs
public import Idealize.ShloMosaic.Lib.Claim

@[expose] public section

set_option maxRecDepth 16384

noncomputable section

namespace Cert.Val

section
open Cert.KernelIdeal Cert.KernelIdeal.Gen Cert.KernelIdeal.Body
open Idealize.ShloMosaic Idealize.ShloMosaic.TcCoe Idealize.ShloMosaic.Tactic
open Idealize.ShloMosaic.StableHlo
open Idealize.ShloMosaic.Pipeline (Dat)
variable (m : (ℓ : Loc nD τ sig) → Buf (Elt Ideal) ℓ) (c : Dev nD)

theorem Dat_shared : ∀ w w', w ≠ w' → Pipeline.arrRef spec0 w = Pipeline.arrRef spec0 w' →
    (dats m 0 c).arrAt w (cfgs 0).N = V0 m c (Proc.devRef .tc (Pipeline.arrRef spec0 w)) :=
  (dats m 0 c).arrAt_sharedIn sharedIn0 (V0 m c) (A_eq m c) (cfgs 0).N
theorem tail_main_v3 : Pipeline.afterTail₀ cfgs (dats m) 0 (V0 m) [hostOps1] c main_v3 = (shapeCast S2x3072x1 ((dats m 0 c).arrAt 5 (cfgs 0).N : S6144x1.Idx → EReal) shapeCasts_S6144x1_S2x3072x1 : S2x3072x1.Idx → EReal) := by
  unfold Pipeline.afterTail₀
  simp only [List.flatten_cons, List.flatten_nil, List.append_nil]
  after_results
  exact congrArg (fun f => shapeCast S2x3072x1 f shapeCasts_S6144x1_S2x3072x1) (Pipeline.withArrays_arr_shared _ c (V0 m c) _ (Dat_shared m c) 5)
theorem tail_main_v4 : Pipeline.afterTail₀ cfgs (dats m) 0 (V0 m) [hostOps1] c main_v4 = (shapeCast S2x3072x7168 ((dats m 0 c).arrAt 6 (cfgs 0).N : S6144x7168.Idx → EReal) shapeCasts_S6144x7168_S2x3072x7168 : S2x3072x7168.Idx → EReal) := by
  unfold Pipeline.afterTail₀
  simp only [List.flatten_cons, List.flatten_nil, List.append_nil]
  after_results
  exact congrArg (fun f => shapeCast S2x3072x7168 f shapeCasts_S6144x7168_S2x3072x7168) (Pipeline.withArrays_arr_shared _ c (V0 m c) _ (Dat_shared m c) 6)
theorem tail_main_v5 : Pipeline.afterTail₀ cfgs (dats m) 0 (V0 m) [hostOps1] c main_v5 = (shapeCast S2x3072x4096 ((dats m 0 c).arrAt 7 (cfgs 0).N : S6144x4096.Idx → EReal) shapeCasts_S6144x4096_S2x3072x4096 : S2x3072x4096.Idx → EReal) := by
  unfold Pipeline.afterTail₀
  simp only [List.flatten_cons, List.flatten_nil, List.append_nil]
  after_results
  exact congrArg (fun f => shapeCast S2x3072x4096 f shapeCasts_S6144x4096_S2x3072x4096) (Pipeline.withArrays_arr_shared _ c (V0 m c) _ (Dat_shared m c) 7)
theorem tail_main_v6 : Pipeline.afterTail₀ cfgs (dats m) 0 (V0 m) [hostOps1] c main_v6 = (shapeCast S2x3072x1 ((dats m 0 c).arrAt 8 (cfgs 0).N : S6144x1.Idx → EReal) shapeCasts_S6144x1_S2x3072x1 : S2x3072x1.Idx → EReal) := by
  unfold Pipeline.afterTail₀
  simp only [List.flatten_cons, List.flatten_nil, List.append_nil]
  after_results
  exact congrArg (fun f => shapeCast S2x3072x1 f shapeCasts_S6144x1_S2x3072x1) (Pipeline.withArrays_arr_shared _ c (V0 m c) _ (Dat_shared m c) 8)
theorem V_main_v0 : V m c main_v0 = (shapeCast S6144x4096 (m ((c : Thread nD τ).loc main_arg0) : S2x3072x4096.Idx → EReal) shapeCasts_S2x3072x4096_S6144x4096 : S6144x4096.Idx → EReal) := by
  show StableHlo.after (List.flatten [hostOps0]) (fun b => m (c, b)) (Proc.devRef .tc main_v0) = _
  simp only [List.flatten_cons, List.flatten_nil, List.append_nil]
  after_results
  try rfl
theorem V_main_v1 : V m c main_v1 = (shapeCast S1x14336 (m ((c : Thread nD τ).loc main_arg2) : S14336.Idx → EReal) shapeCasts_S14336_S1x14336 : S1x14336.Idx → EReal) := by
  show StableHlo.after (List.flatten [hostOps0]) (fun b => m (c, b)) (Proc.devRef .tc main_v1) = _
  simp only [List.flatten_cons, List.flatten_nil, List.append_nil]
  after_results
  try rfl
end

end Cert.Val

namespace Cert.Val.Ref

section
open Cert.ReferenceIdeal Cert.ReferenceIdeal.Gen
open Idealize.ShloMosaic Idealize.ShloMosaic.TcCoe Idealize.ShloMosaic.Tactic
open Idealize.ShloMosaic.StableHlo
open Idealize.ShloMosaic.Pipeline (Dat)
variable (m : (ℓ : Loc nD τ sig) → Buf (Elt Ideal) ℓ) (c : Dev nD)

theorem Dat_shared : ∀ w w', w ≠ w' → Pipeline.arrRef spec0 w = Pipeline.arrRef spec0 w' →
    (dats m 0 c).arrAt w (cfgs 0).N = V0 m c (Proc.devRef .tc (Pipeline.arrRef spec0 w)) :=
  fun w w' h e => absurd ((by decide : ∀ w w', Pipeline.arrRef spec0 w = Pipeline.arrRef spec0 w' → w = w') w w' e) h
theorem tail_main_v3 : Pipeline.afterTail₀ cfgs (dats m) 0 (V0 m) [hostOps1] c main_v3 = (shapeCast S2x3072x1 ((dats m 0 c).arrAt 3 (cfgs 0).N : S6144x1.Idx → EReal) shapeCasts_S6144x1_S2x3072x1 : S2x3072x1.Idx → EReal) := by
  unfold Pipeline.afterTail₀
  simp only [List.flatten_cons, List.flatten_nil, List.append_nil]
  after_results
  exact congrArg (fun f => shapeCast S2x3072x1 f shapeCasts_S6144x1_S2x3072x1) (Pipeline.withArrays_arr_shared _ c (V0 m c) _ (Dat_shared m c) 3)
theorem tail_main_v4 : Pipeline.afterTail₀ cfgs (dats m) 0 (V0 m) [hostOps1] c main_v4 = (shapeCast S2x3072x7168 ((dats m 0 c).arrAt 4 (cfgs 0).N : S6144x7168.Idx → EReal) shapeCasts_S6144x7168_S2x3072x7168 : S2x3072x7168.Idx → EReal) := by
  unfold Pipeline.afterTail₀
  simp only [List.flatten_cons, List.flatten_nil, List.append_nil]
  after_results
  exact congrArg (fun f => shapeCast S2x3072x7168 f shapeCasts_S6144x7168_S2x3072x7168) (Pipeline.withArrays_arr_shared _ c (V0 m c) _ (Dat_shared m c) 4)
theorem tail_main_v5 : Pipeline.afterTail₀ cfgs (dats m) 0 (V0 m) [hostOps1] c main_v5 = (shapeCast S2x3072x4096 ((dats m 0 c).arrAt 5 (cfgs 0).N : S6144x4096.Idx → EReal) shapeCasts_S6144x4096_S2x3072x4096 : S2x3072x4096.Idx → EReal) := by
  unfold Pipeline.afterTail₀
  simp only [List.flatten_cons, List.flatten_nil, List.append_nil]
  after_results
  exact congrArg (fun f => shapeCast S2x3072x4096 f shapeCasts_S6144x4096_S2x3072x4096) (Pipeline.withArrays_arr_shared _ c (V0 m c) _ (Dat_shared m c) 5)
theorem tail_main_v6 : Pipeline.afterTail₀ cfgs (dats m) 0 (V0 m) [hostOps1] c main_v6 = (shapeCast S2x3072x1 ((dats m 0 c).arrAt 6 (cfgs 0).N : S6144x1.Idx → EReal) shapeCasts_S6144x1_S2x3072x1 : S2x3072x1.Idx → EReal) := by
  unfold Pipeline.afterTail₀
  simp only [List.flatten_cons, List.flatten_nil, List.append_nil]
  after_results
  exact congrArg (fun f => shapeCast S2x3072x1 f shapeCasts_S6144x1_S2x3072x1) (Pipeline.withArrays_arr_shared _ c (V0 m c) _ (Dat_shared m c) 6)
theorem V_main_v0 : V m c main_v0 = (shapeCast S6144x4096 (m ((c : Thread nD τ).loc main_arg0) : S2x3072x4096.Idx → EReal) shapeCasts_S2x3072x4096_S6144x4096 : S6144x4096.Idx → EReal) := by
  show StableHlo.after (List.flatten [hostOps0]) (fun b => m (c, b)) (Proc.devRef .tc main_v0) = _
  simp only [List.flatten_cons, List.flatten_nil, List.append_nil]
  after_results
  try rfl
theorem V_main_v1 : V m c main_v1 = (shapeCast S1x14336 (m ((c : Thread nD τ).loc main_arg2) : S14336.Idx → EReal) shapeCasts_S14336_S1x14336 : S1x14336.Idx → EReal) := by
  show StableHlo.after (List.flatten [hostOps0]) (fun b => m (c, b)) (Proc.devRef .tc main_v1) = _
  simp only [List.flatten_cons, List.flatten_nil, List.append_nil]
  after_results
  try rfl
end

end Cert.Val.Ref
end
-- ==== Proof.Val.Algebraic.lean ====
module

public import proofs.«01_k».proof.Proof.Val.Tail

@[expose] public section

set_option maxRecDepth 16384

noncomputable section

namespace Cert.Val

open Idealize.ShloMosaic Idealize.SL.Sem

section
open Cert.KernelIdeal Cert.KernelIdeal.Gen Cert.KernelIdeal.Body
variable (m : (ℓ : Loc nD τ sig) → Buf (Elt Ideal) ℓ) (g : Dev nD → PrngReg)

/-- The kernel's run: each result at the host lines' value, the arguments unchanged. -/
theorem kernel_run : θ_run defs (onTc (τ := τ) (main (F := Ideal))) ⟨m, fun _ => 0, g⟩ (fun r => ∀ c : Dev nD,
      r.2.mem ((c.tc : Thread nD τ).loc main_v3) = Pipeline.afterTail₀ cfgs (dats m) 0 (V0 m) [hostOps1] c main_v3
      ∧ r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.2.1 c).2 main_v3 (Pipeline.mem_restRefs_of main_v3 (by decide) (by decide)),
      (h.2.1 c).2 main_v4 (Pipeline.mem_restRefs_of main_v4 (by decide) (by decide)),
      (h.2.1 c).2 main_v5 (Pipeline.mem_restRefs_of main_v5 (by decide) (by decide)),
      (h.2.1 c).2 main_v6 (Pipeline.mem_restRefs_of main_v6 (by decide) (by decide)),
      h.1 c⟩) (θ_run_and (unchanged m g) (run_main_quiescent m g))
end

section
open Cert.ReferenceIdeal Cert.ReferenceIdeal.Gen
variable (m : (ℓ : Loc nD τ sig) → Buf (Elt Ideal) ℓ) (g : Dev nD → PrngReg)

/-- The reference's run, the same way. -/
theorem reference_run : θ_run defs (onTc (τ := τ) (main (F := Ideal))) ⟨m, fun _ => 0, g⟩ (fun r => ∀ c : Dev nD,
      r.2.mem ((c.tc : Thread nD τ).loc main_v3) = Pipeline.afterTail₀ cfgs (dats m) 0 (V0 m) [hostOps1] c main_v3
      ∧ r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.2 c).2 main_v3 (Pipeline.mem_restRefs_of main_v3 (by decide) (by decide)),
      (h.2 c).2 main_v4 (Pipeline.mem_restRefs_of main_v4 (by decide) (by decide)),
      (h.2 c).2 main_v5 (Pipeline.mem_restRefs_of main_v5 (by decide) (by decide)),
      (h.2 c).2 main_v6 (Pipeline.mem_restRefs_of main_v6 (by decide) (by decide)),
      h.1 c⟩) (θ_run_and (unchanged m g) (run_main m g))
end

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))

include h0 in
/-- The two regions find the same tokens, -/
theorem X_eq : Ref.XR m' c = XK m c := by
  funext r k
  unfold Ref.XR XK
  rw [Ref.V_main_v0, V_main_v0]
  exact congrArg (fun f => shapeCast KernelIdeal.S6144x4096 f KernelIdeal.Gen.shapeCasts_S2x3072x4096_S6144x4096 (ix2 r k)) h0
include h1 in
/-- the same weights -/
theorem W_eq : Ref.WR m' c = WK m c := by
  funext r k
  unfold Ref.WR WK
  rw [ReferenceIdeal.Gen.V_main_arg1, KernelIdeal.Gen.V_main_arg1]
  exact congrFun h1 (ix2 r k)
include h2 in
/-- and the same weight scales. -/
theorem S_eq : Ref.SR m' c = SK m c := by
  funext q
  unfold Ref.SR SK
  rw [Ref.V_main_v1, V_main_v1]
  exact congrArg (fun f => shapeCast KernelIdeal.S1x14336 f KernelIdeal.Gen.shapeCasts_S14336_S1x14336 (ix2 0 q)) h2
end

theorem algebraic : Cert.algebraic_KernelIdeal_ReferenceIdeal := by
  intro m g m' g' _ hag
  refine ⟨_, _, _, _, kernel_run m g, (θ_run _ _ _).mono (fun r h c => ?_) (reference_run m' g')⟩
  obtain ⟨a3, a4, a5, a6, b⟩ := h c
  obtain ⟨h0, h1, h2⟩ := hag c
  have eX := X_eq m m' c h0
  have eW := W_eq m m' c h1
  have eS := S_eq m m' c h2
  refine ⟨a3.trans ?_, a4.trans ?_, a5.trans ?_, a6.trans ?_, b⟩
  · rw [Ref.tail_main_v3, tail_main_v3, Ref.arr3, arr5, eX, eW, eS]; rfl
  · rw [Ref.tail_main_v4, tail_main_v4, Ref.arr4, arr6, eX, eW, eS]; rfl
  · rw [Ref.tail_main_v5, tail_main_v5, Ref.arr5, arr7, eX]; rfl
  · rw [Ref.tail_main_v6, tail_main_v6, Ref.arr6, arr8, eX]; rfl

end Cert.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KI.Body
public import proofs.«01_k».proof.Proof.K.Body
public import proofs.«01_k».proof.Proof.Val.Algebraic
public import Idealize.ShloMosaic.Adequacy
public import Idealize.ShloMosaic.Init

@[expose] public section

noncomputable section

namespace Cert.Proof

open Idealize.ShloMosaic Idealize.SL.Sem Cert.Kernel

/-- The five claims, in their order. -/
theorem claim : Cert.Claim :=
  ⟨Cert.Kernel.Gen.facts, Cert.KernelIdeal.Gen.facts, Cert.ReferenceIdeal.Gen.facts,
    fun m ρ _ => Cert.Kernel.Body.frame m ρ,
    fun m ρ _ => Cert.KernelIdeal.Body.frame m ρ,
    fun m ρ _ => Cert.ReferenceIdeal.Gen.frame m ρ,
    trivial, Cert.Val.algebraic⟩

end Cert.Proof

end
